-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unambiguous [hPre_unambiguous : Cert.Pre_unambiguous.Facts] (m : (ℓ : Loc Cert.KernelIdeal.nD Cert.KernelIdeal.τ Cert.KernelIdeal.sig) → Buf (Elt Ideal) ℓ) : Prop :=
  ∀ c : Dev Cert.KernelIdeal.nD,
    (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_unambiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unambiguous [hPre_unambiguous : Cert.Pre_unambiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_unambiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unambiguous [hKernelIdeal : Cert.KernelIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unambiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unambiguous [hReferenceIdeal : Cert.ReferenceIdeal.Facts] [hPre_unambiguous : Cert.Pre_unambiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unambiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_unambiguous [hKernelIdeal : Cert.KernelIdeal.Facts] [hReferenceIdeal : Cert.ReferenceIdeal.Facts] [hPre_unambiguous : Cert.Pre_unambiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unambiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_unambiguous : Cert.Pre_unambiguous.Facts),
    quiescent_Kernel (hKernel := hKernel)
    ∧ quiescent_KernelIdeal (hKernelIdeal := hKernelIdeal)
    ∧ quiescent_KernelIdeal_pre_unambiguous (hKernelIdeal := hKernelIdeal) (hPre_unambiguous := hPre_unambiguous)
    ∧ quiescent_ReferenceIdeal (hReferenceIdeal := hReferenceIdeal)
    ∧ quiescent_ReferenceIdeal_pre_unambiguous (hReferenceIdeal := hReferenceIdeal) (hPre_unambiguous := hPre_unambiguous)
    ∧ preserves_Kernel_KernelIdeal
    ∧ algebraic_KernelIdeal_ReferenceIdeal_pre_unambiguous (hKernelIdeal := hKernelIdeal) (hReferenceIdeal := hReferenceIdeal) (hPre_unambiguous := hPre_unambiguous)
-- ==== Pre_unambiguous.lean ====
abbrev S1024x512 : Shape := ⟨2, ![1024, 512]⟩
abbrev S1024 : Shape := ⟨1, ![1024]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

class Facts : Prop where
  bcast_S_S4096x512 : S_.BroadcastsInDim S4096x512 (![] : Fin 0 → Fin S4096x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  dot_S4096x512_S512x4096_S4096x4096_1_0_0_1_n_n_wf : DotDims.WF S4096x512 S512x4096 S4096x4096 [1] [0] [0] [1] [] []

variable [Facts]

variable {F : FTy → Type} [FloatOps F]
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_where_0 {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_argmax {F : FTy → Type} [FloatOps F] (arg0 : FVec F S4096x4096 .f32) : IVec S4096 32 :=
  let v0 : IVec S4096x4096 32 := iotaInDim S4096x4096 32 1
  let cst : FVec F S_ .f32 := constant S_ .f32 0xFF800000#32
  let c : IVec S_ 32 := constantI S_ 32 0#32
  let v1_0 : FVec F S4096 .f32 := (fun x y u v j => (Host.argReduce reducer_argmax_f32_i32 x y u v reducesTo_S4096x4096_S4096_d1 h_S_ j).1) arg0 v0 cst c
  let v1_1 : IVec S4096 32 := (fun x y u v j => (Host.argReduce reducer_argmax_f32_i32 x y u v reducesTo_S4096x4096_S4096_d1 h_S_ j).2) arg0 v0 cst c
  v1_1

def fn_argmin {F : FTy → Type} [FloatOps F] (arg0 : FVec F S4096x4096 .f32) : IVec S4096 32 :=
  let v0 : IVec S4096x4096 32 := iotaInDim S4096x4096 32 1
  let cst : FVec F S_ .f32 := constant S_ .f32 0x7F800000#32
  let c : IVec S_ 32 := constantI S_ 32 0#32
  let v1_0 : FVec F S4096 .f32 := (fun x y u v j => (Host.argReduce reducer_argmin_f32_i32 x y u v reducesTo_S4096x4096_S4096_d1 h_S_ j).1) arg0 v0 cst c
  let v1_1 : IVec S4096 32 := (fun x y u v j => (Host.argReduce reducer_argmin_f32_i32 x y u v reducesTo_S4096x4096_S4096_d1 h_S_ j).2) arg0 v0 cst c
  v1_1

def fn_part2 {F : FTy → Type} [FloatOps F] (main_v2 : IVec S4096x512 1) (main_v28 : FVec F S4096x4096 .f32) (main_v29 : FVec F S4096 .f32) (main_v30 : FVec F S4096 .f32) (main_v31 : IVec S4096 32) (main_v34 : IVec S4096x4096 1) (main_v38 : IVec S4096x4096 32) (main_v39 : IVec S4096x4096 32) : IVec S4096x512 1 × IVec S4096 1 × IVec S4096 1 × IVec S4096x4096 1 × IVec S4096x4096 1 :=
  let main_v40 : IVec S4096x4096 1 := cmpi .eq main_v38 main_v39
  let main_v41 : IVec S4096x4096 1 := ori main_v34 main_v40
  let main_v42 : FVec F S4096x1 .f32 := broadcastInDim S4096x1 ![0] bcast_S4096_S4096x1_0 main_v30
  let main_v43 : FVec F S4096x4096 .f32 := broadcastInDim S4096x4096 ![0, 1] bcast_S4096x1_S4096x4096_0_1 main_v42
  let main_v44 : IVec S4096x4096 1 := cmpf .ogt main_v28 main_v43
  let main_v45 : IVec S1x4096 32 := broadcastInDim S1x4096 ![1] bcast_S4096_S1x4096_1 main_v31
  let main_v46 : IVec S4096 32 := fn_argmin (F := F) main_v28
  let main_v47 : IVec S4096x1 32 := broadcastInDim S4096x1 ![0] bcast_S4096_S4096x1_0 main_v46
  let main_v48 : IVec S4096x4096 32 := broadcastInDim S4096x4096 ![0, 1] bcast_S1x4096_S4096x4096_0_1 main_v45
  let main_v49 : IVec S4096x4096 32 := broadcastInDim S4096x4096 ![0, 1] bcast_S4096x1_S4096x4096_0_1 main_v47
  let main_v50 : IVec S4096x4096 1 := cmpi .eq main_v48 main_v49
  let main_v51 : IVec S4096x4096 1 := ori main_v44 main_v50
  let main_cst_6 : FVec F S_ .f32 := constant S_ .f32 0x00000000#32
  let main_v52 : FVec F S4096 .f32 := broadcastInDim S4096 ![] bcast_S_S4096 main_cst_6
  let main_v53 : IVec S4096 1 := cmpf .ogt main_v29 main_v52
  let main_cst_7 : FVec F S_ .f32 := constant S_ .f32 0x7F800000#32
  let main_v54 : FVec F S4096 .f32 := broadcastInDim S4096 ![] bcast_S_S4096 main_cst_7
  let main_v55 : IVec S4096 1 := cmpf .olt main_v30 main_v54
  (main_v2, main_v53, main_v55, main_v41, main_v51)

def fn_part1 {F : FTy → Type} [FloatOps F] (main_v2 : IVec S4096x512 1) (main_v14 : FVec F S4096x4096 .f32) (main_v19 : IVec S4096x4096 1) (main_v20 : IVec S4096x4096 32) : IVec S4096x512 1 × IVec S4096 1 × IVec S4096 1 × IVec S4096x4096 1 × IVec S4096x4096 1 :=
  let main_v21 : IVec S4096x4096 32 := iotaInDim S4096x4096 32 1
  let main_c : IVec S_ 32 := constantI S_ 32 0#32
  let main_v22 : IVec S4096x4096 32 := broadcastInDim S4096x4096 ![] bcast_S_S4096x4096 main_c
  let main_v23 : IVec S4096x4096 32 := addi main_v20 main_v22
  let main_v24 : IVec S4096x4096 1 := cmpi .eq main_v23 main_v21
  let main_v25 : IVec S4096x4096 1 := noti main_v24
  let main_v26 : IVec S4096x4096 1 := andi main_v19 main_v25
  let main_cst_2 : FVec F S_ .f32 := constant S_ .f32 0xFF800000#32
  let main_v27 : FVec F S4096x4096 .f32 := fn_where (F := F) main_v26 main_v14 main_cst_2
  let main_cst_3 : FVec F S_ .f32 := constant S_ .f32 0x7F800000#32
  let main_v28 : FVec F S4096x4096 .f32 := fn_where_0 (F := F) main_v19 main_cst_3 main_v14
  let main_cst_4 : FVec F S_ .f32 := constant S_ .f32 0xFF800000#32
  let main_v29 : FVec F S4096 .f32 := (fun x v => Host.reduce FloatOps.maximumf x v reducesTo_S4096x4096_S4096_d1 h_S_) main_v27 main_cst_4
  let main_cst_5 : FVec F S_ .f32 := constant S_ .f32 0x7F800000#32
  let main_v30 : FVec F S4096 .f32 := (fun x v => Host.reduce FloatOps.minimumf x v reducesTo_S4096x4096_S4096_d1 h_S_) main_v28 main_cst_5
  let main_v31 : IVec S4096 32 := iotaInDim S4096 32 0
  let main_v32 : FVec F S4096x1 .f32 := broadcastInDim S4096x1 ![0] bcast_S4096_S4096x1_0 main_v29
  let main_v33 : FVec F S4096x4096 .f32 := broadcastInDim S4096x4096 ![0, 1] bcast_S4096x1_S4096x4096_0_1 main_v32
  let main_v34 : IVec S4096x4096 1 := cmpf .olt main_v27 main_v33
  let main_v35 : IVec S1x4096 32 := broadcastInDim S1x4096 ![1] bcast_S4096_S1x4096_1 main_v31
  let main_v36 : IVec S4096 32 := fn_argmax (F := F) main_v27
  let main_v37 : IVec S4096x1 32 := broadcastInDim S4096x1 ![0] bcast_S4096_S4096x1_0 main_v36
  let main_v38 : IVec S4096x4096 32 := broadcastInDim S4096x4096 ![0, 1] bcast_S1x4096_S4096x4096_0_1 main_v35
  let main_v39 : IVec S4096x4096 32 := broadcastInDim S4096x4096 ![0, 1] bcast_S4096x1_S4096x4096_0_1 main_v37
  fn_part2 (F := F) main_v2 main_v28 main_v29 main_v30 main_v31 main_v34 main_v38 main_v39

def fn {F : FTy → Type} [FloatOps F] (main_arg0 : FVec F S1024x512 .f32) (main_arg1 : IVec S1024 32) (main_arg2 : FVec F S4096x512 .f32) (main_arg3 : IVec S4096 32) : IVec S4096x512 1 × IVec S4096 1 × IVec S4096 1 × IVec S4096x4096 1 × IVec S4096x4096 1 :=
  let main_v0 : FVec F S4096x512 .f32 := Host.absf main_arg2
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := mulf main_arg2 main_arg2
  let main_cst_0 : FVec F S_ .f32 := constant S_ .f32 0x00000000#32
  let main_v4 : FVec F S4096 .f32 := (fun x v => Host.reduceAdd x v reducesTo_S4096x512_S4096_d1 h_S_) main_v3 main_cst_0
  let main_v5 : FVec F S4096x1 .f32 := broadcastInDim S4096x1 ![0] bcast_S4096_S4096x1_0 main_v4
  let main_v6 : FVec F S1x4096 .f32 := broadcastInDim S1x4096 ![1] bcast_S4096_S1x4096_1 main_v4
  let main_v7 : FVec F S4096x4096 .f32 := broadcastInDim S4096x4096 ![0, 1] bcast_S4096x1_S4096x4096_0_1 main_v5
  let main_v8 : FVec F S4096x4096 .f32 := broadcastInDim S4096x4096 ![0, 1] bcast_S1x4096_S4096x4096_0_1 main_v6
  let main_v9 : FVec F S4096x4096 .f32 := addf main_v7 main_v8
  let main_v10 : FVec F S512x4096 .f32 := (transpose S512x4096 [1, 0] · transposes_S4096x512_S512x4096_1_0) main_arg2
  let main_v11 : FVec F S4096x4096 .f32 := (fun l r => Host.dotGeneral dot_S4096x512_S512x4096_S4096x4096_1_0_0_1_n_n none l r) main_arg2 main_v10
  let main_cst_1 : FVec F S_ .f32 := constant S_ .f32 0x40000000#32
  let main_v12 : FVec F S4096x4096 .f32 := broadcastInDim S4096x4096 ![] bcast_S_S4096x4096 main_cst_1
  let main_v13 : FVec F S4096x4096 .f32 := mulf main_v12 main_v11
  let main_v14 : FVec F S4096x4096 .f32 := subf main_v9 main_v13
  let main_v15 : IVec S4096x1 32 := broadcastInDim S4096x1 ![0] bcast_S4096_S4096x1_0 main_arg3
  let main_v16 : IVec S1x4096 32 := broadcastInDim S1x4096 ![1] bcast_S4096_S1x4096_1 main_arg3
  let main_v17 : IVec S4096x4096 32 := broadcastInDim S4096x4096 ![0, 1] bcast_S4096x1_S4096x4096_0_1 main_v15
  let main_v18 : IVec S4096x4096 32 := broadcastInDim S4096x4096 ![0, 1] bcast_S1x4096_S4096x4096_0_1 main_v16
  let main_v19 : IVec S4096x4096 1 := cmpi .eq main_v17 main_v18
  let main_v20 : IVec S4096x4096 32 := iotaInDim S4096x4096 32 0
  fn_part1 (F := F) main_v2 main_v14 main_v19 main_v20
-- ==== Kernel.lean ====
abbrev S1024x512 : Shape := ⟨2, ![1024, 512]⟩
abbrev S1024 : Shape := ⟨1, ![1024]⟩
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S4096x3 : Shape := ⟨2, ![4096, 3]⟩
abbrev S512x3 : Shape := ⟨2, ![512, 3]⟩
abbrev S512x4096 : Shape := ⟨2, ![512, 4096]⟩
abbrev S512x512 : Shape := ⟨2, ![512, 512]⟩
abbrev S512x1 : Shape := ⟨2, ![512, 1]⟩
abbrev S1x128 : Shape := ⟨2, ![1, 128]⟩
abbrev S512x128 : Shape := ⟨2, ![512, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 7
  | .smem => 1
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4096x512, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S1x1, .f32⟩
  | .hbm, ⟨7, _⟩ => ⟨S4096x3, .i32⟩
  | .hbm, ⟨8, _⟩ => ⟨S_, .f32⟩
  | .local _ .vmem, ⟨0, _⟩ => ⟨S4096x512, .f32⟩
  | .local _ .vmem, ⟨1, _⟩ => ⟨S4096x1, .i32⟩
  | .local _ .vmem, ⟨2, _⟩ => ⟨S1x4096, .i32⟩
  | .local _ .vmem, ⟨3, _⟩ => ⟨S512x3, .i32⟩
  | .local _ .vmem, ⟨4, _⟩ => ⟨S512x3, .i32⟩
  | .local _ .vmem, ⟨5, _⟩ => ⟨S512x4096, .f32⟩
  | .local _ .vmem, ⟨6, _⟩ => ⟨S1x4096, .f32⟩
  | .local _ .smem, ⟨0, _⟩ => ⟨S1x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let c512_i32 : BitVec 32 := 512#32
  let v3 : BitVec 32 := Scalar.muli arg0 c512_i32
  let v4 : Index := Scalar.indexCast v3
  ![0, v4.toNat]
def k0_off2 (i : grid0.Coords) : Fin 2 → Nat :=
  let arg0 : BitVec 32 := BitVec.ofNat 32 (i 0).val
  let c512_i32_6 : BitVec 32 := 512#32
  let v13 : BitVec 32 := Scalar.muli arg0 c512_i32_6
  let v14 : Index := Scalar.indexCast v13
  let c0_7 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x512 : Shape := ⟨2, ![1024, 512]⟩
abbrev S1024 : Shape := ⟨1, ![1024]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x3 : Shape := ⟨2, ![4096, 3]⟩

abbrev nBuf : Space → Nat
  | .hbm => 107
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4096x512, .f32⟩
  | .hbm, ⟨3, _⟩ => ⟨S4096, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S512x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4096x4096, .i1⟩
  | .hbm, ⟨30, _⟩ => ⟨S4096x4096, .i1⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .i32⟩
  | .hbm, ⟨41, _⟩ => ⟨S_, .f32⟩
  | .hbm, ⟨42, _⟩ => ⟨S_, .i32⟩
  | .hbm, ⟨43, _⟩ => ⟨S4096, .f32⟩
  | .hbm, ⟨44, _⟩ => ⟨S4096, .i32⟩
  | .hbm, ⟨45, _⟩ => ⟨S4096x4096, .i32⟩
  | .hbm, ⟨46, _⟩ => ⟨S_, .f32⟩
  | .hbm, ⟨47, _⟩ => ⟨S_, .i32⟩
  | .hbm, ⟨48, _⟩ => ⟨S4096, .f32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x1, .i32⟩
  | .hbm, ⟨53, _⟩ => ⟨S4096x1, .i32⟩
  | .hbm, ⟨54, _⟩ => ⟨S4096x3, .i32⟩
  | .hbm, ⟨55, _⟩ => ⟨S4096x1, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x512, .f32⟩
  | .hbm, ⟨66, _⟩ => ⟨S4096x1, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S4096x512, .f32⟩
  | .hbm, ⟨77, _⟩ => ⟨S4096x1, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S_, .f32⟩
  | .hbm, ⟨91, _⟩ => ⟨S4096, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v27 : Ref sig .tc := ⟨.hbm, 44, rfl⟩
abbrev main_call3_v0 : Ref sig .tc := ⟨.hbm, 45, rfl⟩
abbrev main_call3_cst : Ref sig .tc := ⟨.hbm, 46, rfl⟩
abbrev main_call3_c : Ref sig .tc := ⟨.hbm, 47, rfl⟩
abbrev main_call3_v1_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_call4_cst : Ref sig .tc := ⟨.hbm, 100, rfl⟩
abbrev main_call4_v0 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Ring
public import Idealize.ShloMosaic.Lib.WordCmp
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is taken: the program's own scalar condition on the grid coordinate. -/
abbrev firstPoint (i : grid0.Coords) : Prop :=
  (Scalar.cmpi .ne (Scalar.extui (Scalar.cmpi .eq (BitVec.ofNat 32 (i 0).val) 0#32)) 0#32) = 1#1

theorem hz : (![0, 0] : Fin 2 → Nat) = fun _ => 0 := funext fun a => by fin_cases a <;> rfl

/-- Reading a whole array after one store that covers it gives what was stored. -/
theorem read_store {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon, View.canon_unit_zero h]
  intro y
  exact ⟨_, List.mem_singleton_self _, by subst h; show y ∈ (Rect.whole S).set; rw [Rect.set_whole]; exact Finset.mem_univ y⟩

/-- The one word of the loss window, as the array of one element. -/
abbrev word (x : F .f32) : Vec F S1x1 .f32 := fun _ => x

/-- The one index of the loss window. -/
abbrev one : S1x1.Idx := fun a => ⟨0, by fin_cases a <;> decide⟩

set_option maxHeartbeats 1000000 in
/-- A point's values and its run at every point but the first. -/
def laterRun (i : grid0.Coords) (E : Vec F S512x4096 .f32) (Q : Vec F S1x4096 .f32) (x1 : Vec F S4096x1 .i32) (x2 : Vec F S1x4096 .i32) :
    { p : Vec F S512x3 .i32 × F .f32 // ¬ firstPoint i → ∀ (c : Dev nD) (arg1 : Memref sig .tc .vmem S4096x512 .f32) (harg1 : arg1.IsWhole) (arg2 : Memref sig .tc .vmem S4096x1 .i32) (harg2 : arg2.IsWhole)
      (arg3 : Memref sig .tc .vmem S1x4096 .i32) (harg3 : arg3.IsWhole) (arg4 : Memref sig .tc .smem S1x1 .f32) (harg4 : arg4.IsWhole) (arg5 : Memref sig .tc .vmem S512x3 .i32) (harg5 : arg5.IsWhole)
      (arg6 : Memref sig .tc .vmem S512x4096 .f32) (harg6 : arg6.IsWhole) (arg7 : Memref sig .tc .vmem S1x4096 .f32) (harg7 : arg7.IsWhole)
      (x0 : Vec F S4096x512 .f32) (d : Vec F S1x1 .f32) (M : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d ∗ (∃ d, owns (c : Thread nD τ) arg5 fullShare d)
            ∗ owns (c : Thread nD τ) arg6 fullShare E ∗ owns (c : Thread nD τ) arg7 fullShare Q
            ∗ (iprop(owns (c : Thread nD τ) arg1 fullShare x0 ∗ owns (c : Thread nD τ) arg2 fullShare x1 ∗ owns (c : Thread nD τ) arg3 fullShare x2 ∗ owns (c : Thread nD τ) arg4 fullShare (word (k0_pay1 (BitVec.ofNat 32 (i 0).val) p.2 (d one)))
                ∗ owns (c : Thread nD τ) arg5 fullShare p.1 ∗ owns (c : Thread nD τ) arg6 fullShare E ∗ owns (c : Thread nD τ) arg7 fullShare Q) -∗ K ⟨⟩))
          ⊢ wp frame (wpE (defs₀ (F := F)) Variants.none c none) M (cc0__hard_triplet_kernel i arg1 harg1 arg2 harg2 arg3 harg3 arg4 harg4 arg5 harg5 arg6 harg6 arg7 harg7) K } := by
  refine ⟨⟨?_, ?_⟩, ?_⟩
  rotate_left 2
  intro hc c arg1 harg1 arg2 harg2 arg3 harg3 arg4 harg4 arg5 harg5 arg6 harg6 arg7 harg7 x0 d M K
  simp only [cc0__hard_triplet_kernel_eq_skeleton]; unfold cc0__hard_triplet_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg6.eq_unread hfs0; obtain rfl := harg7.eq_unread hfs1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (View.cover_of_tiled _ S1x1.size rfl), View.canon_unit_zero hz]
    sl_unfold_words
    simp only [View.readAt_eq_ld, harg2.read_unread, harg3.read_unread, harg4.read_unread, harg6.read_unread, harg7.read_unread, View.ld_unit_zero (S := S1x1) hz, View.ld_unit_zero (S := S512x4096) hz, View.ld_unit_zero (S := S1x4096) hz]
    refine funext fun _ => congrArg₂ (k0_pay1 _) ?_ ?_
    · exact rfl
    · exact congrArg d (funext fun a => Fin.ext (by fin_cases a <;> rfl))
  isplitl [H4]
  · iexists _; isplitr; swap; · iexact H4
    ipureintro
    rw [View.read_writes_eq_canon _ _ _ (View.cover_of_tiled _ S512x3.size rfl), View.canon_unit_zero hz]
    sl_unfold_words
    simp only [View.readAt_eq_ld, harg2.read_unread, harg3.read_unread, harg4.read_unread, harg6.read_unread, harg7.read_unread, View.ld_unit_zero (S := S512x4096) hz, View.ld_unit_zero (S := S1x4096) hz]
    exact rfl
  isplitl [HS0]
  · iexists _; isplitr; · ipureintro; exact harg6.read_unread _
    iexact HS0
  iexists _; isplitr; · ipureintro; exact harg7.read_unread _
  iexact HS1

/-- What a point writes into its block of the triplet array, of the scratch and the labels. -/
def trip (i : grid0.Coords) (E : Vec F S512x4096 .f32) (Q : Vec F S1x4096 .f32) (x1 : Vec F S4096x1 .i32) (x2 : Vec F S1x4096 .i32) : Vec F S512x3 .i32 :=
  (laterRun i E Q x1 x2).1.1

/-- The sum of a point's 512 losses, of the scratch and the labels. -/
def total (i : grid0.Coords) (E : Vec F S512x4096 .f32) (Q : Vec F S1x4096 .f32) (x1 : Vec F S4096x1 .i32) (x2 : Vec F S1x4096 .i32) : F .f32 :=
  (laterRun i E Q x1 x2).1.2

set_option maxHeartbeats 1000000 in
/-- The run at the first point: the scratch gets the transposed embeddings and their sums of squares, whatever it held, and the
    outputs are those of `trip` and `total` at that scratch. -/
theorem firstRun (i : grid0.Coords) (x0 : Vec F S4096x512 .f32) (x1 : Vec F S4096x1 .i32) (x2 : Vec F S1x4096 .i32)
    (hc : firstPoint i) (c : Dev nD) (arg1 : Memref sig .tc .vmem S4096x512 .f32) (harg1 : arg1.IsWhole) (arg2 : Memref sig .tc .vmem S4096x1 .i32) (harg2 : arg2.IsWhole)
      (arg3 : Memref sig .tc .vmem S1x4096 .i32) (harg3 : arg3.IsWhole) (arg4 : Memref sig .tc .smem S1x1 .f32) (harg4 : arg4.IsWhole) (arg5 : Memref sig .tc .vmem S512x3 .i32) (harg5 : arg5.IsWhole)
      (arg6 : Memref sig .tc .vmem S512x4096 .f32) (harg6 : arg6.IsWhole) (arg7 : Memref sig .tc .vmem S1x4096 .f32) (harg7 : arg7.IsWhole)
      (d : Vec F S1x1 .f32) (M : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare d ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (word (k0_pay1 (BitVec.ofNat 32 (i 0).val) (total i (k0_pay3 x0) (k0_pay4 x0) x1 x2) (d one)))
                ∗ owns (c : Thread nD τ) arg5 fullShare (trip i (k0_pay3 x0) (k0_pay4 x0) x1 x2) ∗ owns (c : Thread nD τ) arg6 fullShare (k0_pay3 x0) ∗ owns (c : Thread nD τ) arg7 fullShare (k0_pay4 x0)) -∗ K ⟨⟩))
          ⊢ wp frame (wpE (defs₀ (F := F)) Variants.none c none) M (cc0__hard_triplet_kernel i arg1 harg1 arg2 harg2 arg3 harg3 arg4 harg4 arg5 harg5 arg6 harg6 arg7 harg7) K := by
  simp only [cc0__hard_triplet_kernel_eq_skeleton]; unfold cc0__hard_triplet_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (View.cover_of_tiled _ S1x1.size rfl), View.canon_unit_zero hz]
    sl_unfold_words
    simp only [View.readAt_eq_ld, harg1.read_unread, harg2.read_unread, harg3.read_unread, View.ld_unit_zero (S := S4096x512) hz, View.ld_unit_zero (S := S512x4096) hz, View.ld_unit_zero (S := S1x4096) hz, View.readCov_unit_zero (S := S512x4096) _ hz, View.readCov_unit_zero (S := S1x4096) _ hz, read_store (S := S512x4096) _ _ hz, read_store (S := S1x4096) _ _ hz]
    refine funext fun _ => congrArg₂ (k0_pay1 _) ?_ ?_
    · unfold total
      exact rfl
    · rw [harg4.read_unread]
      exact congrArg d (funext fun a => Fin.ext (by fin_cases a <;> rfl))
  isplitl [H4]
  · iexists _; isplitr; swap; · iexact H4
    ipureintro
    rw [View.read_writes_eq_canon _ _ _ (View.cover_of_tiled _ S512x3.size rfl), View.canon_unit_zero hz]
    unfold trip
    sl_unfold_words
    simp only [View.readAt_eq_ld, harg1.read_unread, harg2.read_unread, harg3.read_unread, View.ld_unit_zero (S := S4096x512) hz, View.ld_unit_zero (S := S512x4096) hz, View.ld_unit_zero (S := S1x4096) hz, View.readCov_unit_zero (S := S512x4096) _ hz, View.readCov_unit_zero (S := S1x4096) _ hz, read_store (S := S512x4096) _ _ hz, read_store (S := S1x4096) _ _ hz]
    exact rfl
  isplitl [HS0]
  · iexists _; isplitr; swap; · iexact HS0
    ipureintro
    sl_unfold_words
    rw [read_store (S := S512x4096) _ _ hz]
    simp only [View.readAt_eq_ld, harg1.read_unread, View.ld_unit_zero (S := S4096x512) hz]
  iexists _; isplitr; swap; · iexact HS1
  ipureintro
  sl_unfold_words
  rw [read_store (S := S1x4096) _ _ hz]
  simp only [View.readAt_eq_ld, harg1.read_unread, View.ld_unit_zero (S := S4096x512) hz]

end Cert.KernelIdeal.Hand

end
-- ==== Proof.Run.lean ====
module

public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the first point only. -/
theorem firstPoint_iff : ∀ t : Fin cfg0.N, firstPoint (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [firstPoint, e0]
    word_cmp
   : ∀ t : Fin grid0.N, firstPoint (grid0.coords t) ↔ t.val = 0)

/-- The grid coordinate of a point is its number. -/
theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The first point. -/
abbrev t00 : Fin cfg0.N := ⟨0, Nat.lt_of_lt_of_eq (by decide) N_0.symm⟩

/-- The embeddings as the region finds them, whole. -/
abbrev emb (c : Dev nD) : Vec F S4096x512 .f32 := iblk m c 0 t00
/-- The labels as a column. -/
abbrev labCol (c : Dev nD) : Vec F S4096x1 .i32 := iblk m c 1 t00
/-- The labels as a row. -/
abbrev labRow (c : Dev nD) : Vec F S1x4096 .i32 := iblk m c 2 t00

/-- An input's block is the same at every point. -/
theorem emb_eq (c : Dev nD) (t : Fin cfg0.N) : iblk m c 0 t = emb m c := rfl
theorem labCol_eq (c : Dev nD) (t : Fin cfg0.N) : iblk m c 1 t = labCol m c := rfl
theorem labRow_eq (c : Dev nD) (t : Fin cfg0.N) : iblk m c 2 t = labRow m c := rfl

/-- What the scratch holds from the first point on: the transposed embeddings, -/
abbrev scrE (c : Dev nD) : Vec F S512x4096 .f32 := k0_pay3 (emb m c)
/-- and their sums of squares. -/
abbrev scrQ (c : Dev nD) : Vec F S1x4096 .f32 := k0_pay4 (emb m c)

/-- A point's block of triplets. -/
def tripAt (c : Dev nD) (t : Fin cfg0.N) : Vec F S512x3 .i32 := trip (grid0.coords t) (scrE m c) (scrQ m c) (labCol m c) (labRow m c)
/-- A point's sum of losses. -/
def totalAt (c : Dev nD) (t : Fin cfg0.N) : F .f32 := total (grid0.coords t) (scrE m c) (scrQ m c) (labCol m c) (labRow m c)

/-- A natural number as a point. -/
abbrev pt (n : ℕ) : Fin cfg0.N := ⟨n % 8, Nat.lt_of_lt_of_eq (Nat.mod_lt _ (by decide)) N_0.symm⟩

/-- What the loss window holds after a point. -/
def lossAt (c : Dev nD) : ℕ → F .f32
  | 0 => totalAt m c (pt 0)
  | n + 1 => k0_pay1 (BitVec.ofNat 32 (n + 1)) (totalAt m c (pt (n + 1))) (lossAt c n)

theorem pt_val (t : Fin cfg0.N) : pt t.val = t := Fin.ext (Nat.mod_eq_of_lt (Nat.lt_of_lt_of_eq t.isLt N_0))

/-- The proof data: inputs keep their blocks, the loss window holds the running sum, the triplet window the point's triplets; the
    scratch is at some contents before the first point and at the stored ones after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => word (lossAt m c t.val)
    | ⟨4, _⟩ => tripAt m c t
  Φ t := match t.val with
    | 0 => Pipeline.ΦA spec0 c
    | _ + 1 => iprop(iprop(owns (c : Thread nD τ) (Memref.whole cc0_scratch0) fullShare (scrE m c) ∗ owns (c : Thread nD τ) (Memref.whole cc0_scratch1) fullShare (scrQ m c))
        ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = word (lossAt m c t.val) := by dsimp only [dats]
theorem after0_4 (c : Dev nD) (t : Fin cfg0.N) : (dats m 0 c).after 4 t = tripAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point the loss window still holds what the point before left. -/
theorem before0_3 (c : Dev nD) (t : Fin cfg0.N) (n : ℕ) (hn : t.val = n + 1) (d) : (dats m 0 c).before 3 t d = word (lossAt m c n) := by
  have ht : t.val < 8 := Nat.lt_of_lt_of_eq t.isLt N_0
  rw [(dats m 0 c).before_out_kept 3 rfl t (by omega) (by
    rw [Bool.eq_false_iff]; intro h; have := (flush0_3 _).mp h; simp only at this; omega) (fun _ => rfl) (fun _ _ => rfl) d, after0_3]
  simp only [hn, Nat.add_sub_cancel]

/-- The class's invariant: the scratch at some contents and the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem Phi_zero (c : Dev nD) (t : Fin (cfg0.N + 1)) (h : t.val = 0) : (dats m 0 c).Φ t = Pipeline.ΦA spec0 c := by
  dsimp only [dats]; rw [h]
theorem Phi_succ (c : Dev nD) (t : Fin (cfg0.N + 1)) (n : ℕ) (h : t.val = n + 1) :
    (dats m 0 c).Φ t = iprop(iprop(owns (c : Thread nD τ) (Memref.whole cc0_scratch0) fullShare (scrE m c) ∗ owns (c : Thread nD τ) (Memref.whole cc0_scratch1) fullShare (scrQ m c))
        ∗ (∃ r, prngReg c r)) := by
  dsimp only [dats]; rw [h]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The first point's running sum does not depend on what the window held. -/
theorem lossAt_zero (c : Dev nD) (d : F .f32) :
    k0_pay1 (BitVec.ofNat 32 0) (totalAt m c (pt 0)) d = lossAt m c 0 := rfl

set_option maxHeartbeats 800000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, Phi_succ m c t.succ t.val rfl]
  simp only [emb_eq, labCol_eq, labRow_eq]
  rcases hn : t.val with _ | n
  · rw [Phi_zero m c t.castSucc hn, PhiA0_eq]
    have hp : pt 0 = t := by rw [← hn]; exact pt_val t
    have hl : ∀ d : Vec F S1x1 .f32, word (k0_pay1 (BitVec.ofNat 32 (grid0.coords t 0).val) (total (grid0.coords t) (scrE m c) (scrQ m c) (labCol m c) (labRow m c)) (d one))
        = word (lossAt m c 0) := fun d => by
      rw [← lossAt_zero m c (d one), hp, coord_val t, hn]; rfl
    iintro ⟨⟨⟨HS0, HS1⟩, Hg⟩, Ho, ⟨%d0, H0⟩, ⟨%d1, H1⟩, ⟨%d2, H2⟩, ⟨%d3, H3⟩, ⟨%d4, H4⟩⟩
    iapply (firstRun (grid0.coords t) (emb m c) (labCol m c) (labRow m c) ((firstPoint_iff t).mpr hn) c _ _ _ _ _ _ _ _ _ _ _ _ _ _ ((dats m 0 c).before 3 t d3) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    rw [hl]
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · rw [Phi_succ m c t.castSucc n hn]
    simp only [before0_3 m c t n hn]
    have hp : pt (n + 1) = t := by rw [← hn]; exact pt_val t
    have hl : word (k0_pay1 (BitVec.ofNat 32 (grid0.coords t 0).val) (laterRun (grid0.coords t) (scrE m c) (scrQ m c) (labCol m c) (labRow m c)).1.2 (word (lossAt m c n) one))
        = word (lossAt m c (n + 1)) := by
      refine congrArg word ?_
      refine Eq.trans (congrArg (fun k : ℕ => k0_pay1 (BitVec.ofNat 32 k) (laterRun (grid0.coords t) (scrE m c) (scrQ m c) (labCol m c) (labRow m c)).1.2 (lossAt m c n)) ((coord_val t).trans hn)) ?_
      rw [lossAt, hp]; rfl
    iintro ⟨⟨⟨HS0, HS1⟩, Hg⟩, Ho, ⟨%d0, H0⟩, ⟨%d1, H1⟩, ⟨%d2, H2⟩, ⟨%d3, H3⟩, ⟨%d4, H4⟩⟩
    iapply ((laterRun (grid0.coords t) (scrE m c) (scrQ m c) (labCol m c) (labRow m c)).2 (fun h => by have := (firstPoint_iff t).mp h; omega) c
      _ _ _ _ _ _ _ _ _ _ _ _ _ _ (emb m c) (word (lossAt m c n)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    rw [hl]
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the invariant is the class's, -/
theorem Phi_in (c : Dev nD) : Pipeline.ΦA spec0 c ⊢ (dats (F := F) m 0 c).Φ 0 := by
  rw [Phi_zero m c 0 rfl]
/-- and after the last one it gives the class's back. -/
theorem Phi_out (c : Dev nD) : (dats (F := F) m 0 c).Φ (Fin.last cfg0.N) ⊢ Pipeline.ΦA spec0 c := by
  rw [Phi_succ m c (Fin.last cfg0.N) 7 N_0, PhiA0_eq]
  iintro ⟨⟨H0, H1⟩, Hg⟩
  isplitl [H0 H1]
  · isplitl [H0]
    · iexists _; iexact H0
    iexists _; iexact H1
  iexact Hg

set_option backward.isDefEq.respectTransparency.types false in
set_option maxHeartbeats 800000 in
/-- The launch: every window's array ends at what its write-backs leave, every other buffer at what the last host line leaves, and
    every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Frames.lean ====
module

public import proofs.«01_k».proof.Defs
public import proofs.«01_k».proof.Proof.Gen.Kernel
public import proofs.«01_k».proof.Proof.Run

@[expose] public section

set_option maxRecDepth 16384

noncomputable section

namespace Cert.Hand

open Idealize.ShloMosaic Idealize.ShloMosaic.TcCoe Idealize.SL.Sem

variable {F : FTy → Type} [FloatOps F]

/-! ## The kernel's frame, from the one of its ideal program: no operation was replaced, so the two are one text -/

/-- The two programs have one body table, -/
theorem bodies_eq : Kernel.defs₀ (F := F) = KernelIdeal.defs₀ (F := F) := by
  unfold Kernel.defs₀ KernelIdeal.defs₀
  refine congrArg Defs.onTc (funext fun l => funext fun a => ?_)
  match l, a with
  | ⟨0, _⟩, (t, s) => rfl

/-- one table with the pipeline's own labels, -/
theorem defs_eq : Kernel.defs (F := F) = KernelIdeal.defs (F := F) :=
  congrArg (Pipeline.defs (KernelIdeal.pcfgs (F := F))) bodies_eq

/-- and one `main`. -/
theorem main_eq : Kernel.main (F := F) = KernelIdeal.main (F := F) := rfl

/-- The kernel runs without fault, its arguments end unchanged and every counter ends at zero. -/
theorem kernel_frame : @Cert.quiescent_Kernel Cert.Kernel.Gen.facts := fun m g _ => by
  rw [defs_eq, main_eq]
  exact Cert.KernelIdeal.Hand.frame (F := Bits) m g

end Cert.Hand
end
-- ==== Proof.RefRun.lean ====
module

public import proofs.«01_k».proof.Proof.Gen.ReferenceIdeal
public import Idealize.ShloMosaic.Lib.StableHlo.Run
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes, stage by stage -/

/-- Every row's sum of squares. -/
def sq (x : Vec F S4096x512 .f32) : Vec F S4096 .f32 :=
  Host.reduceAdd (mulf x x) (constant S_ .f32 0x00000000#32) reducesTo_S4096x512_S4096_d1 h_S_

/-- The squared distance of every two rows. -/
def d2 (x : Vec F S4096x512 .f32) : Vec F S4096x4096 .f32 :=
  subf (addf (broadcastInDim S4096x4096 ![0, 1] bcast_S4096x1_S4096x4096_0_1 (broadcastInDim S4096x1 ![0] bcast_S4096_S4096x1_0 (sq x)))
      (broadcastInDim S4096x4096 ![0, 1] bcast_S1x4096_S4096x4096_0_1 (broadcastInDim S1x4096 ![1] bcast_S4096_S1x4096_1 (sq x))))
    (mulf (broadcastInDim S4096x4096 ![] bcast_S_S4096x4096 (constant S_ .f32 0x40000000#32))
      (Host.dotGeneral dot_S4096x512_S512x4096_S4096x4096_1_0_0_1_n_n none x (transpose S512x4096 [1, 0] x transposes_S4096x512_S512x4096_1_0)))

/-- Whether two rows have one label. -/
def same (l : Vec F S4096 .i32) : Vec F S4096x4096 .i1 :=
  cmpi .eq (broadcastInDim S4096x4096 ![0, 1] bcast_S4096x1_S4096x4096_0_1 (broadcastInDim S4096x1 ![0] bcast_S4096_S4096x1_0 l))
    (broadcastInDim S4096x4096 ![0, 1] bcast_S1x4096_S4096x4096_0_1 (broadcastInDim S1x4096 ![1] bcast_S4096_S1x4096_1 l))

/-- Whether two rows are one row. -/
def self : Vec F S4096x4096 .i1 :=
  cmpi .eq (addi (iotaInDim S4096x4096 32 0) (broadcastInDim S4096x4096 ![] bcast_S_S4096x4096 (constantI S_ 32 0#32))) (iotaInDim S4096x4096 32 1)

/-- The distances to the other rows of a row's label, minus infinity elsewhere. -/
def posD (x : Vec F S4096x512 .f32) (l : Vec F S4096 .i32) : Vec F S4096x4096 .f32 :=
  select (andi (same (F := F) l) (noti (self (F := F)))) (d2 x) (broadcastInDim S4096x4096 ![] bcast_S_S4096x4096 (constant S_ .f32 0xFF800000#32))

/-- The distances to the rows of another label, infinity elsewhere. -/
def negD (x : Vec F S4096x512 .f32) (l : Vec F S4096 .i32) : Vec F S4096x4096 .f32 :=
  select (noti (same (F := F) l)) (d2 x) (broadcastInDim S4096x4096 ![] bcast_S_S4096x4096 (constant S_ .f32 0x7F800000#32))

/-- The first index of every row's greatest element, -/
def argmax (y : Vec F S4096x4096 .f32) : Vec F S4096 .i32 :=
  fun j => (Host.argReduce reducer_argmax_f32_i32 y (iotaInDim S4096x4096 32 1) (constant S_ .f32 0xFF800000#32) (constantI S_ 32 0#32) reducesTo_S4096x4096_S4096_d1 h_S_ j).2
/-- and of its least. -/
def argmin (y : Vec F S4096x4096 .f32) : Vec F S4096 .i32 :=
  fun j => (Host.argReduce reducer_argmin_f32_i32 y (iotaInDim S4096x4096 32 1) (constant S_ .f32 0x7F800000#32) (constantI S_ 32 0#32) reducesTo_S4096x4096_S4096_d1 h_S_ j).2

/-- The triplets: the row, its hardest positive, its hardest negative. -/
def trips (x : Vec F S4096x512 .f32) (l : Vec F S4096 .i32) : Vec F S4096x3 .i32 :=
  concatenate S4096x3 1 [⟨S4096x1, broadcastInDim S4096x1 ![0] bcast_S4096_S4096x1_0 (iotaInDim S4096 32 0)⟩,
    ⟨S4096x1, broadcastInDim S4096x1 ![0] bcast_S4096_S4096x1_0 (argmax (posD x l))⟩,
    ⟨S4096x1, broadcastInDim S4096x1 ![0] bcast_S4096_S4096x1_0 (argmin (negD x l))⟩] concatenates_S4096x1_S4096x1_S4096x1_S4096x3_d1

/-- A column of row numbers, a negative one counted from the end, as the rows' indices. -/
def wrap (v : Vec F S4096x1 .i32) : Vec F S4096x1 .i32 :=
  let w : Vec F S4096 .i32 := shapeCast S4096 v shapeCasts_S4096x1_S4096
  broadcastInDim S4096x1 ![0] bcast_S4096_S4096x1_0
    (select (cmpi .slt w (broadcastInDim S4096 ![] bcast_S_S4096 (constantI S_ 32 0#32))) (addi w (broadcastInDim S4096 ![] bcast_S_S4096 (constantI S_ 32 4096#32))) w)

/-- The rows that a column names. -/
def rowsOf (x : Vec F S4096x512 .f32) (v : Vec F S4096x1 .i32) : Vec F S4096x512 .f32 :=
  Host.gather gather_S4096x512_S4096x1_S4096x512_1_0_n_n_0_1_1512 x (wrap (F := F) v)

/-- The squared distance of two arrays' rows. -/
def dist (a b : Vec F S4096x512 .f32) : Vec F S4096 .f32 :=
  Host.reduceAdd (mulf (subf a b) (subf a b)) (constant S_ .f32 0x00000000#32) reducesTo_S4096x512_S4096_d1 h_S_

/-- Every row's loss. -/
def losses (x : Vec F S4096x512 .f32) (t : Vec F S4096x3 .i32) : Vec F S4096 .f32 :=
  maximumf (addf (subf (dist (rowsOf x (extractStridedSlice S4096x1 ![0, 0] t slices_S4096x3_S4096x1_0_0)) (rowsOf x (extractStridedSlice S4096x1 ![0, 1] t slices_S4096x3_S4096x1_0_1)))
      (dist (rowsOf x (extractStridedSlice S4096x1 ![0, 0] t slices_S4096x3_S4096x1_0_0)) (rowsOf x (extractStridedSlice S4096x1 ![0, 2] t slices_S4096x3_S4096x1_0_2))))
    (broadcastInDim S4096 ![] bcast_S_S4096 (constant S_ .f32 0x3F800000#32))) (broadcastInDim S4096 ![] bcast_S_S4096 (constant S_ .f32 0x00000000#32))

/-- The mean loss. -/
def mean (x : Vec F S4096x512 .f32) (t : Vec F S4096x3 .i32) : Vec F S_ .f32 :=
  Host.divf (Host.reduceAdd (losses x t) (constant S_ .f32 0x00000000#32) reducesTo_S4096_S_d0 h_S_) (constant S_ .f32 0x45800000#32)

/-! ## The run -/

/-- The operations down to the three columns of the triplets, in order, -/
abbrev opsA : List (HloOp τ sig (Elt F)) :=
  [ binary main_arg2 main_arg2 main_v0 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v0 main_cst main_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg2 main_v7 ((transpose S512x4096 [1, 0] · transposes_S4096x512_S512x4096_1_0) : (⟨S4096x512, .f32⟩ : BufTy).Contents (Elt F) → (⟨S512x4096, .f32⟩ : BufTy).Contents (Elt F)),
    binary main_arg2 main_v7 main_v8 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    unary main_arg3 main_v12 (broadcastInDim S4096x1 ![0] bcast_S4096_S4096x1_0 : (⟨S4096, .i32⟩ : BufTy).Contents (Elt F) → (⟨S4096x1, .i32⟩ : BufTy).Contents (Elt F)),
    unary main_arg3 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x4096 ![0, 1] bcast_S4096x1_S4096x4096_0_1 : (⟨S4096x1, .i32⟩ : BufTy).Contents (Elt F) → (⟨S4096x4096, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    binary main_v14 main_v15 main_v16 (cmpi .eq : (⟨S4096x4096, .i32⟩ : BufTy).Contents (Elt F) → (⟨S4096x4096, .i32⟩ : BufTy).Contents (Elt F) → (⟨S4096x4096, .i1⟩ : BufTy).Contents (Elt F)),
    nullary main_v17 (iotaInDim S4096x4096 32 0),
    nullary main_v18 (iotaInDim S4096x4096 32 1),
    nullary main_c (constantI S_ 32 0#32),
    unary main_c main_v19 (broadcastInDim S4096x4096 ![] bcast_S_S4096x4096 : (⟨S_, .i32⟩ : BufTy).Contents (Elt F) → (⟨S4096x4096, .i32⟩ : BufTy).Contents (Elt F)),
    binary main_v17 main_v19 main_v20 (addi : (⟨S4096x4096, .i32⟩ : BufTy).Contents (Elt F) → (⟨S4096x4096, .i32⟩ : BufTy).Contents (Elt F) → (⟨S4096x4096, .i32⟩ : BufTy).Contents (Elt F)),
    binary main_v20 main_v18 main_v21 (cmpi .eq : (⟨S4096x4096, .i32⟩ : BufTy).Contents (Elt F) → (⟨S4096x4096, .i32⟩ : BufTy).Contents (Elt F) → (⟨S4096x4096, .i1⟩ : BufTy).Contents (Elt F)),
    unary main_v21 main_v22 (noti : (⟨S4096x4096, .i1⟩ : BufTy).Contents (Elt F) → (⟨S4096x4096, .i1⟩ : BufTy).Contents (Elt F)),
    binary main_v16 main_v22 main_v23 (andi : (⟨S4096x4096, .i1⟩ : BufTy).Contents (Elt F) → (⟨S4096x4096, .i1⟩ : BufTy).Contents (Elt F) → (⟨S4096x4096, .i1⟩ : BufTy).Contents (Elt F)),
    unary main_v16 main_v24 (noti : (⟨S4096x4096, .i1⟩ : BufTy).Contents (Elt F) → (⟨S4096x4096, .i1⟩ : BufTy).Contents (Elt F)),
    nullary main_cst_1 (constant S_ .f32 0xFF800000#32),
    unary main_cst_1 main_call0_v0 id,
    unary main_call0_v0 main_call0_v1 (broadcastInDim S4096x4096 ![] bcast_S_S4096x4096),
    ternary main_v23 main_v11 main_call0_v1 main_v25 select,
    nullary main_cst_2 (constant S_ .f32 0x7F800000#32),
    unary main_cst_2 main_call1_v0 id,
    unary main_call1_v0 main_call1_v1 (broadcastInDim S4096x4096 ![] bcast_S_S4096x4096),
    ternary main_v24 main_v11 main_call1_v1 main_v26 select,
    nullary main_call2_v0 (iotaInDim S4096x4096 32 1),
    nullary main_call2_cst (constant S_ .f32 0xFF800000#32),
    nullary main_call2_c (constantI S_ 32 0#32),
    quaternary main_v25 main_call2_v0 main_call2_cst main_call2_c main_call2_v1_0 (fun x y u v j => (Host.argReduce reducer_argmax_f32_i32 x y u v reducesTo_S4096x4096_S4096_d1 h_S_ j).1),
    quaternary main_v25 main_call2_v0 main_call2_cst main_call2_c main_v27 (fun x y u v j => (Host.argReduce reducer_argmax_f32_i32 x y u v reducesTo_S4096x4096_S4096_d1 h_S_ j).2),
    nullary main_call3_v0 (iotaInDim S4096x4096 32 1),
    nullary main_call3_cst (constant S_ .f32 0x7F800000#32),
    nullary main_call3_c (constantI S_ 32 0#32),
    quaternary main_v26 main_call3_v0 main_call3_cst main_call3_c main_call3_v1_0 (fun x y u v j => (Host.argReduce reducer_argmin_f32_i32 x y u v reducesTo_S4096x4096_S4096_d1 h_S_ j).1),
    quaternary main_v26 main_call3_v0 main_call3_cst main_call3_c main_v28 (fun x y u v j => (Host.argReduce reducer_argmin_f32_i32 x y u v reducesTo_S4096x4096_S4096_d1 h_S_ j).2),
    nullary main_v29 (iotaInDim S4096 32 0),
    unary main_v29 main_v30 (broadcastInDim S4096x1 ![0] bcast_S4096_S4096x1_0 : (⟨S4096, .i32⟩ : BufTy).Contents (Elt F) → (⟨S4096x1, .i32⟩ : BufTy).Contents (Elt F)),
    unary main_v27 main_v31 (broadcastInDim S4096x1 ![0] bcast_S4096_S4096x1_0 : (⟨S4096, .i32⟩ : BufTy).Contents (Elt F) → (⟨S4096x1, .i32⟩ : BufTy).Contents (Elt F)),
    unary main_v28 main_v32 (broadcastInDim S4096x1 ![0] bcast_S4096_S4096x1_0 : (⟨S4096, .i32⟩ : BufTy).Contents (Elt F) → (⟨S4096x1, .i32⟩ : BufTy).Contents (Elt F)) ]

/-- the one that joins the columns, -/
abbrev opsN : List (HloOp τ sig (Elt F)) :=
  [ nary ![main_v30, main_v31, main_v32] main_v33 (fun u => (concatenate S4096x3 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩] concatenates_S4096x1_S4096x1_S4096x1_S4096x3_d1 : (⟨S4096x3, .i32⟩ : BufTy).Contents (Elt F))) ]

/-- and from there to the mean loss. -/
abbrev opsB : List (HloOp τ sig (Elt F)) :=
  [ unary main_v33 main_v34 ((extractStridedSlice S4096x1 ![0, 0] · slices_S4096x3_S4096x1_0_0) : (⟨S4096x3, .i32⟩ : BufTy).Contents (Elt F) → (⟨S4096x1, .i32⟩ : BufTy).Contents (Elt F)),
    reshape main_v34 main_v35 (rfl : (.i32 : EltTy) = .i32) shapeCasts_S4096x1_S4096,
    nullary main_c_3 (constantI S_ 32 0#32),
    unary main_c_3 main_v36 (broadcastInDim S4096 ![] bcast_S_S4096 : (⟨S_, .i32⟩ : BufTy).Contents (Elt F) → (⟨S4096, .i32⟩ : BufTy).Contents (Elt F)),
    binary main_v35 main_v36 main_v37 (cmpi .slt : (⟨S4096, .i32⟩ : BufTy).Contents (Elt F) → (⟨S4096, .i32⟩ : BufTy).Contents (Elt F) → (⟨S4096, .i1⟩ : BufTy).Contents (Elt F)),
    nullary main_c_4 (constantI S_ 32 4096#32),
    unary main_c_4 main_v38 (broadcastInDim S4096 ![] bcast_S_S4096 : (⟨S_, .i32⟩ : BufTy).Contents (Elt F) → (⟨S4096, .i32⟩ : BufTy).Contents (Elt F)),
    binary main_v35 main_v38 main_v39 (addi : (⟨S4096, .i32⟩ : BufTy).Contents (Elt F) → (⟨S4096, .i32⟩ : BufTy).Contents (Elt F) → (⟨S4096, .i32⟩ : BufTy).Contents (Elt F)),
    ternary main_v37 main_v39 main_v35 main_v40 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v40 main_v41 (broadcastInDim S4096x1 ![0] bcast_S4096_S4096x1_0 : (⟨S4096, .i32⟩ : BufTy).Contents (Elt F) → (⟨S4096x1, .i32⟩ : BufTy).Contents (Elt F)),
    binary main_arg2 main_v41 main_v42 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)),
    unary main_v33 main_v43 ((extractStridedSlice S4096x1 ![0, 1] · slices_S4096x3_S4096x1_0_1) : (⟨S4096x3, .i32⟩ : BufTy).Contents (Elt F) → (⟨S4096x1, .i32⟩ : BufTy).Contents (Elt F)),
    reshape main_v43 main_v44 (rfl : (.i32 : EltTy) = .i32) shapeCasts_S4096x1_S4096,
    nullary main_c_5 (constantI S_ 32 0#32),
    unary main_c_5 main_v45 (broadcastInDim S4096 ![] bcast_S_S4096 : (⟨S_, .i32⟩ : BufTy).Contents (Elt F) → (⟨S4096, .i32⟩ : BufTy).Contents (Elt F)),
    binary main_v44 main_v45 main_v46 (cmpi .slt : (⟨S4096, .i32⟩ : BufTy).Contents (Elt F) → (⟨S4096, .i32⟩ : BufTy).Contents (Elt F) → (⟨S4096, .i1⟩ : BufTy).Contents (Elt F)),
    nullary main_c_6 (constantI S_ 32 4096#32),
    unary main_c_6 main_v47 (broadcastInDim S4096 ![] bcast_S_S4096 : (⟨S_, .i32⟩ : BufTy).Contents (Elt F) → (⟨S4096, .i32⟩ : BufTy).Contents (Elt F)),
    binary main_v44 main_v47 main_v48 (addi : (⟨S4096, .i32⟩ : BufTy).Contents (Elt F) → (⟨S4096, .i32⟩ : BufTy).Contents (Elt F) → (⟨S4096, .i32⟩ : BufTy).Contents (Elt F)),
    ternary main_v46 main_v48 main_v44 main_v49 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v49 main_v50 (broadcastInDim S4096x1 ![0] bcast_S4096_S4096x1_0 : (⟨S4096, .i32⟩ : BufTy).Contents (Elt F) → (⟨S4096x1, .i32⟩ : BufTy).Contents (Elt F)),
    binary main_arg2 main_v50 main_v51 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)),
    unary main_v33 main_v52 ((extractStridedSlice S4096x1 ![0, 2] · slices_S4096x3_S4096x1_0_2) : (⟨S4096x3, .i32⟩ : BufTy).Contents (Elt F) → (⟨S4096x1, .i32⟩ : BufTy).Contents (Elt F)),
    reshape main_v52 main_v53 (rfl : (.i32 : EltTy) = .i32) shapeCasts_S4096x1_S4096,
    nullary main_c_7 (constantI S_ 32 0#32),
    unary main_c_7 main_v54 (broadcastInDim S4096 ![] bcast_S_S4096 : (⟨S_, .i32⟩ : BufTy).Contents (Elt F) → (⟨S4096, .i32⟩ : BufTy).Contents (Elt F)),
    binary main_v53 main_v54 main_v55 (cmpi .slt : (⟨S4096, .i32⟩ : BufTy).Contents (Elt F) → (⟨S4096, .i32⟩ : BufTy).Contents (Elt F) → (⟨S4096, .i1⟩ : BufTy).Contents (Elt F)),
    nullary main_c_8 (constantI S_ 32 4096#32),
    unary main_c_8 main_v56 (broadcastInDim S4096 ![] bcast_S_S4096 : (⟨S_, .i32⟩ : BufTy).Contents (Elt F) → (⟨S4096, .i32⟩ : BufTy).Contents (Elt F)),
    binary main_v53 main_v56 main_v57 (addi : (⟨S4096, .i32⟩ : BufTy).Contents (Elt F) → (⟨S4096, .i32⟩ : BufTy).Contents (Elt F) → (⟨S4096, .i32⟩ : BufTy).Contents (Elt F)),
    ternary main_v55 main_v57 main_v53 main_v58 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v58 main_v59 (broadcastInDim S4096x1 ![0] bcast_S4096_S4096x1_0 : (⟨S4096, .i32⟩ : BufTy).Contents (Elt F) → (⟨S4096x1, .i32⟩ : BufTy).Contents (Elt F)),
    binary main_arg2 main_v59 main_v60 ((fun x i => Host.gather gather_S4096x512_S4096x1_S4096x512_1_0_n_n_0_1_1512 x i) : (⟨S4096x512, .f32⟩ : BufTy).Contents (Elt F) → (⟨S4096x1, .i32⟩ : BufTy).Contents (Elt F) → (⟨S4096x512, .f32⟩ : BufTy).Contents (Elt F)),
    binary main_v42 main_v51 main_v61 (subf : (⟨S4096x512, .f32⟩ : BufTy).Contents (Elt F) → (⟨S4096x512, .f32⟩ : BufTy).Contents (Elt F) → (⟨S4096x512, .f32⟩ : BufTy).Contents (Elt F)),
    binary main_v61 main_v61 main_v62 (mulf : (⟨S4096x512, .f32⟩ : BufTy).Contents (Elt F) → (⟨S4096x512, .f32⟩ : BufTy).Contents (Elt F) → (⟨S4096x512, .f32⟩ : BufTy).Contents (Elt F)),
    nullary main_cst_9 (constant S_ .f32 0x00000000#32),
    binary main_v62 main_cst_9 main_v63 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    binary main_v42 main_v60 main_v64 (subf : (⟨S4096x512, .f32⟩ : BufTy).Contents (Elt F) → (⟨S4096x512, .f32⟩ : BufTy).Contents (Elt F) → (⟨S4096x512, .f32⟩ : BufTy).Contents (Elt F)),
    binary main_v64 main_v64 main_v65 (mulf : (⟨S4096x512, .f32⟩ : BufTy).Contents (Elt F) → (⟨S4096x512, .f32⟩ : BufTy).Contents (Elt F) → (⟨S4096x512, .f32⟩ : BufTy).Contents (Elt F)),
    nullary main_cst_10 (constant S_ .f32 0x00000000#32),
    binary main_v65 main_cst_10 main_v66 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    binary main_v63 main_v66 main_v67 (subf : (⟨S4096, .f32⟩ : BufTy).Contents (Elt F) → (⟨S4096, .f32⟩ : BufTy).Contents (Elt F) → (⟨S4096, .f32⟩ : BufTy).Contents (Elt F)),
    nullary main_cst_11 (constant S_ .f32 0x3F800000#32),
    unary main_cst_11 main_v68 (broadcastInDim S4096 ![] bcast_S_S4096 : (⟨S_, .f32⟩ : BufTy).Contents (Elt F) → (⟨S4096, .f32⟩ : BufTy).Contents (Elt F)),
    binary main_v67 main_v68 main_v69 (addf : (⟨S4096, .f32⟩ : BufTy).Contents (Elt F) → (⟨S4096, .f32⟩ : BufTy).Contents (Elt F) → (⟨S4096, .f32⟩ : BufTy).Contents (Elt F)),
    nullary main_call4_cst (constant S_ .f32 0x00000000#32),
    unary main_call4_cst main_call4_v0 (broadcastInDim S4096 ![] bcast_S_S4096),
    binary main_v69 main_call4_v0 main_v70 maximumf,
    nullary main_cst_12 (constant S_ .f32 0x00000000#32),
    binary main_v70 main_cst_12 main_v71 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x45800000#32),
    binary main_v71 main_cst_13 main_v72 (Host.divf : (⟨S_, .f32⟩ : BufTy).Contents (Elt F) → (⟨S_, .f32⟩ : BufTy).Contents (Elt F) → (⟨S_, .f32⟩ : BufTy).Contents (Elt F)) ]

set_option maxHeartbeats 4000000 in
/-- The program is that straight line. -/
theorem main_eq (c : Dev nD) : main (F := F) c = seq (opsA ++ opsN ++ opsB) := rfl

theorem ops_sub : (opsA ++ opsN ++ opsB : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., unary_bufs_sub .., unary_bufs_sub .., unary_bufs_sub .., nary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., binary_bufs_sub .., binary_bufs_sub .., nullary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

section Stretches
variable (V : Valuation τ sig (Elt F))

set_option maxHeartbeats 1000000

/-- The columns after the first stretch: the rows, -/
theorem col0_eq : after opsA V (main_v30 : DevRef τ sig) = broadcastInDim S4096x1 ![0] bcast_S4096_S4096x1_0 (iotaInDim S4096 32 0) := by
  after_results
/-- the hardest positives, -/
theorem col1_eq : after opsA V (main_v31 : DevRef τ sig)
    = broadcastInDim S4096x1 ![0] bcast_S4096_S4096x1_0 (argmax (posD (V (main_arg2 : DevRef τ sig)) (V (main_arg3 : DevRef τ sig)))) := by
  after_results
  rfl
/-- and the hardest negatives. -/
theorem col2_eq : after opsA V (main_v32 : DevRef τ sig)
    = broadcastInDim S4096x1 ![0] bcast_S4096_S4096x1_0 (argmin (negD (V (main_arg2 : DevRef τ sig)) (V (main_arg3 : DevRef τ sig)))) := by
  after_results
  rfl

/-- The joined columns. -/
theorem joined_eq : after opsN V (main_v33 : DevRef τ sig)
    = concatenate S4096x3 1 [⟨S4096x1, V (main_v30 : DevRef τ sig)⟩, ⟨S4096x1, V (main_v31 : DevRef τ sig)⟩, ⟨S4096x1, V (main_v32 : DevRef τ sig)⟩] concatenates_S4096x1_S4096x1_S4096x1_S4096x3_d1 := by
  rw [after_cons, after_nil, nary_result]
  rfl

/-- The last stretch keeps them. -/
theorem trips_kept : after opsB V (main_v33 : DevRef τ sig) = V (main_v33 : DevRef τ sig) := by
  after_results

/-- The mean loss after the last stretch, of the triplets before it. -/
theorem mean_eq : after opsB V (main_v72 : DevRef τ sig) = mean (V (main_arg2 : DevRef τ sig)) (V (main_v33 : DevRef τ sig)) := by
  after_results
  rfl

/-- No stretch writes an argument. -/
theorem argA0 : after opsA V (main_arg0 : DevRef τ sig) = V (main_arg0 : DevRef τ sig) := by after_results
theorem argA1 : after opsA V (main_arg1 : DevRef τ sig) = V (main_arg1 : DevRef τ sig) := by after_results
theorem argA2 : after opsA V (main_arg2 : DevRef τ sig) = V (main_arg2 : DevRef τ sig) := by after_results
theorem argA3 : after opsA V (main_arg3 : DevRef τ sig) = V (main_arg3 : DevRef τ sig) := by after_results
theorem argN0 : after opsN V (main_arg0 : DevRef τ sig) = V (main_arg0 : DevRef τ sig) := by after_results
theorem argN1 : after opsN V (main_arg1 : DevRef τ sig) = V (main_arg1 : DevRef τ sig) := by after_results
theorem argN2 : after opsN V (main_arg2 : DevRef τ sig) = V (main_arg2 : DevRef τ sig) := by after_results
theorem argN3 : after opsN V (main_arg3 : DevRef τ sig) = V (main_arg3 : DevRef τ sig) := by after_results
theorem argB0 : after opsB V (main_arg0 : DevRef τ sig) = V (main_arg0 : DevRef τ sig) := by after_results
theorem argB1 : after opsB V (main_arg1 : DevRef τ sig) = V (main_arg1 : DevRef τ sig) := by after_results
theorem argB2 : after opsB V (main_arg2 : DevRef τ sig) = V (main_arg2 : DevRef τ sig) := by after_results
theorem argB3 : after opsB V (main_arg3 : DevRef τ sig) = V (main_arg3 : DevRef τ sig) := by after_results

end Stretches

/-- The triplets at the end. -/
theorem trips_eq (V : Valuation τ sig (Elt F)) :
    after (opsA ++ opsN ++ opsB) V (main_v33 : DevRef τ sig) = trips (V (main_arg2 : DevRef τ sig)) (V (main_arg3 : DevRef τ sig)) := by
  rw [after_append, after_append, trips_kept, joined_eq, col0_eq, col1_eq, col2_eq]; rfl

/-- The mean loss at the end. -/
theorem loss_eq (V : Valuation τ sig (Elt F)) :
    after (opsA ++ opsN ++ opsB) V (main_v72 : DevRef τ sig)
      = mean (V (main_arg2 : DevRef τ sig)) (trips (V (main_arg2 : DevRef τ sig)) (V (main_arg3 : DevRef τ sig))) := by
  rw [after_append, after_append, mean_eq, joined_eq, col0_eq, col1_eq, col2_eq, argN2, argA2]; rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- The run: the results at their stages' values, the arguments unchanged, every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v72)
            = mean (m ((c.tc : Thread nD τ).loc main_arg2)) (trips (m ((c.tc : Thread nD τ).loc main_arg2)) (m ((c.tc : Thread nD τ).loc main_arg3)))
        ∧ r.2.mem ((c.tc : Thread nD τ).loc main_v33) = trips (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v72).trans (loss_eq _), (h c main_v33).trans (trips_eq _),
      (h c main_arg0).trans (by rw [after_append, after_append, argB0, argN0, argA0]), (h c main_arg1).trans (by rw [after_append, after_append, argB1, argN1, argA1]),
      (h c main_arg2).trans (by rw [after_append, after_append, argB2, argN2, argA2]), (h c main_arg3).trans (by rw [after_append, after_append, argB3, argN3, argA3])⟩)
    (run_seq scopedRefs_eq scopedSems_eq defs main (fun _ => opsA ++ opsN ++ opsB) main_eq (fun _ => ops_sub) m ρ)

/-- The program has no semaphore, so every counter of a final memory is zero. -/
theorem counters (s : MemSt nD τ sig (Elt F)) : s.sem = fun _ => 0 :=
  sem_eq_zero_of_no_sems rfl s

/-- The reference leaves its arguments as they are and every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run defs _ _).mono (fun r h => ⟨fun c => (h c).2.2, counters r.2⟩) (run_main m ρ)

end Cert.ReferenceIdeal.Hand

end
-- ==== Proof.Final.lean ====
module

public import proofs.«01_k».proof.Proof.Run
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## What the kernel leaves in its two results -/

/-- The triplet array: row `r` is row `r % 512` of point `r / 512`'s block. -/
def triples (c : Dev nD) : Vec F S4096x3 .i32 := fun j => tripAt m c (pt ((j 0).val / 512)) (ix2 ⟨(j 0).val % 512, Nat.mod_lt _ (by decide)⟩ (j 1))

/-- A point's block of the triplet array starts at its 512 rows. -/
theorem index4 (t : Fin cfg0.N) : win0_4.index t 0 = t.val ∧ win0_4.index t 1 = 0 := by
  rcases fin_N0 t with rfl | rfl | rfl | rfl | rfl | rfl | rfl | rfl <;> decide

/-- The write-back of a point writes its rows. -/
theorem flushed4 (c : Dev nD) (t : Fin cfg0.N) (hf : (cfg0.win 4).flush t = true) :
    (dats m 0 c).flushed 4 t = ((cfg0.win 4).blk t).view.read (Elt F) (triples m c) := by
  show (cfg0.win 4).cut (grid0.coords t) ((dats m 0 c).after 4 t) = _
  rw [after0_4]
  funext j
  rw [View.read_apply]
  have hj : (j 0).val < 512 := (j 0).isLt
  have ht : t.val < 8 := Nat.lt_of_lt_of_eq t.isLt N_0
  have e0 : (((cfg0.win 4).blk t).view.emb j 0).val = 512 * t.val + (j 0).val := by
    show win0_4.index t 0 * 512 + 1 * (j 0).val = _
    rw [(index4 t).1]; omega
  have e1 : (((cfg0.win 4).blk t).view.emb j 1).val = (j 1).val := by
    show win0_4.index t 1 * 3 + 1 * (j 1).val = _
    rw [(index4 t).2]; omega
  have hp : pt ((((cfg0.win 4).blk t).view.emb j 0).val / 512) = t := by
    rw [e0, show (512 * t.val + (j 0).val) / 512 = t.val by omega, pt_val]
  show tripAt m c t j = tripAt m c (pt ((((cfg0.win 4).blk t).view.emb j 0).val / 512)) _
  rw [hp]
  refine congrArg (tripAt m c t) (funext fun a => Fin.ext ?_)
  match a with
  | ⟨0, _⟩ => show (j 0).val = (((cfg0.win 4).blk t).view.emb j 0).val % 512; rw [e0]; omega
  | ⟨1, _⟩ => exact e1.symm

/-- A row's point covers the row. -/
theorem mem4 (i : S4096x3.Idx) (t : Fin cfg0.N) (ht : t.val = (i 0).val / 512) : i ∈ ((cfg0.win 4).blk t).view.set := by
  show i ∈ ((View.whole main_v2_1).slice (win0_4.rect t)).set
  rw [View.set_slice_whole, Rect.mem_set_unit]
  intro a
  have h0 : (i 0).val < 4096 := (i 0).isLt
  have h1 : (i 1).val < 3 := (i 1).isLt
  match a with
  | ⟨0, _⟩ => show win0_4.index t 0 * 512 ≤ (i 0).val ∧ (i 0).val < win0_4.index t 0 * 512 + 512
              rw [(index4 t).1]; omega
  | ⟨1, _⟩ => show win0_4.index t 1 * 3 ≤ (i 1).val ∧ (i 1).val < win0_4.index t 1 * 3 + 3
              rw [(index4 t).2]; omega

/-- So the triplet array ends holding every point's rows. -/
theorem final4 (c : Dev nD) : (dats m 0 c).arrAt 4 cfg0.N = triples m c :=
  (dats m 0 c).arrAt_eq_of_cover 4 (triples m c) (flushed4 m c) fun (i : S4096x3.Idx) =>
    ⟨pt ((i 0).val / 512), flush0_4 _, mem4 i _ (by have h0 : (i 0).val < 4096 := (i 0).isLt; show (i 0).val / 512 % 8 = _; omega)⟩

/-- The last point. -/
theorem flushed3 (c : Dev nD) (t : Fin cfg0.N) (hf : (cfg0.win 3).flush t = true) :
    (dats m 0 c).flushed 3 t = ((cfg0.win 3).blk t).view.read (Elt F) (word (lossAt m c 7)) := by
  have hN : cfg0.N = 8 := N_0
  have h7 : t.val = 7 := by have := (flush0_3 t).mp hf; have := t.isLt; omega
  show (cfg0.win 3).cut (grid0.coords t) ((dats m 0 c).after 3 t) = _
  rw [after0_3, h7]
  rfl

/-- So the loss array ends holding the last point's running sum. -/
theorem final3 (c : Dev nD) : (dats m 0 c).arrAt 3 cfg0.N = word (lossAt m c 7) :=
  (dats m 0 c).arrAt_eq_of_cover 3 (word (lossAt m c 7)) (flushed3 m c) fun i =>
    ⟨t0_7, (flush0_3 t0_7).mpr rfl, by
      show i ∈ ((View.whole main_v2_0).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * 1 ≤ (i 0 : Nat) ∧ (i 0 : Nat) < win0_3.index t0_7 0 * 1 + 1
                  rw [show win0_3.index t0_7 0 * 1 = 0 from by decide +kernel]; omega
      | ⟨1, _⟩ => show win0_3.index t0_7 1 * 1 ≤ (i 1 : Nat) ∧ (i 1 : Nat) < win0_3.index t0_7 1 * 1 + 1
                  rw [show win0_3.index t0_7 1 * 1 = 0 from by decide +kernel]; omega⟩

/-- The host's last line reads the loss array's one word. -/
theorem loss_read (c : Dev nD) : Pipeline.afterTail₀ cfgs (dats m) 0 (V0 m) [hostOps1] c main_v3 = fun _ => lossAt m c 7 := by
  unfold Pipeline.afterTail₀
  simp only [hostOps1, List.flatten_cons, List.flatten_nil, List.append_nil, StableHlo.after_cons, StableHlo.after_nil]
  rw [StableHlo.reshape_result]
  have h := (Pipeline.withArrays_arr spec0 launch0.win.arr_inj c (V0 m c) (fun w => (dats m 0 c).arrAt w cfg0.N) 3).trans (final3 m c)
  funext j
  exact congrFun h _

/-- The region finds the embeddings as launched, -/
theorem emb_at (c : Dev nD) : emb m c = m ((c : Thread nD τ).loc main_arg2) := by
  refine Eq.trans ?_ (V_main_arg2 m c)
  funext j
  unfold emb iblk
  rw [View.read_apply]
  refine congrArg (V m c main_arg2) (funext fun a => Fin.ext ?_)
  match a with
  | ⟨0, _⟩ => show win0_0.index t00 0 * 4096 + 1 * (j 0).val = (j 0).val; rw [show win0_0.index t00 0 = 0 from rfl]; omega
  | ⟨1, _⟩ => show win0_0.index t00 1 * 512 + 1 * (j 1).val = (j 1).val; rw [show win0_0.index t00 1 = 0 from rfl]; omega

/-- the labels as a column, -/
theorem labCol_at (c : Dev nD) (i : Fin 4096) : labCol m c (ix2 i 0) = (m ((c : Thread nD τ).loc main_arg3) : Vec F S4096 .i32) (ix1 i) := by
  have hV : V m c main_v0 = shapeCast S4096x1 (m ((c : Thread nD τ).loc main_arg3) : Vec F S4096 .i32) shapeCasts_S4096_S4096x1 := by
    simp only [V, V0, hostOps0, List.flatten_cons, List.flatten_nil, List.append_nil]
    after_results
    rfl
  refine Eq.trans ?_ ((congrFun hV (ix2 i 0)).trans (by pointwise))
  unfold labCol iblk
  rw [View.read_apply]
  refine congrArg (V m c main_v0) (funext fun a => Fin.ext ?_)
  match a with
  | ⟨0, _⟩ => show win0_1.index t00 0 * 4096 + 1 * i.val = i.val; rw [show win0_1.index t00 0 = 0 from rfl]; omega
  | ⟨1, _⟩ => rfl

/-- the labels as a row. -/
theorem labRow_at (c : Dev nD) (i : Fin 4096) : labRow m c (ix2 0 i) = (m ((c : Thread nD τ).loc main_arg3) : Vec F S4096 .i32) (ix1 i) := by
  have hV : V m c main_v1 = shapeCast S1x4096 (m ((c : Thread nD τ).loc main_arg3) : Vec F S4096 .i32) shapeCasts_S4096_S1x4096 := by
    simp only [V, V0, hostOps0, List.flatten_cons, List.flatten_nil, List.append_nil]
    after_results
    rfl
  refine Eq.trans ?_ ((congrFun hV (ix2 0 i)).trans ((shapeCast_addUnit_apply ![4096] _ _ _).trans (congrArg _ (funext fun a => by fin_cases a; rfl))))
  unfold labRow iblk
  rw [View.read_apply]
  refine congrArg (V m c main_v1) (funext fun a => Fin.ext ?_)
  match a with
  | ⟨0, _⟩ => rfl
  | ⟨1, _⟩ => show win0_2.index t00 1 * 4096 + 1 * i.val = i.val; rw [show win0_2.index t00 1 = 0 from rfl]; omega

end Cert.KernelIdeal.Hand
end
-- ==== Proof.Fold.lean ====
module

public import proofs.«01_k».proof.Proof.Run
public import Idealize.ShloMosaic.Lib.Pointwise

@[expose] public section

set_option maxRecDepth 16384

noncomputable section

namespace Cert.KernelIdeal.Hand

open Cert.KernelIdeal Cert.KernelIdeal.Gen
open Idealize.ShloMosaic

/-! ## The fold over the chunks: a value that is extreme among those seen, and the offset it stands at -/

/-- Among the values `x n` at the offsets `n` of `S`, `v` is one that `le` puts last, and `o` is its offset. -/
def Best (le : EReal → EReal → Prop) (x : ℕ → EReal) (S : List ℕ) (v o : EReal) : Prop :=
  ∃ n ∈ S, v = x n ∧ o = ((n : ℝ) : EReal) ∧ ∀ k ∈ S, le (x k) (x n)

/-- One value is the best of itself. -/
theorem Best.one {le : EReal → EReal → Prop} (hr : ∀ a, le a a) (x : ℕ → EReal) (n : ℕ) : Best le x [n] (x n) ((n : ℝ) : EReal) :=
  ⟨n, List.mem_singleton_self n, rfl, rfl, fun k hk => by rw [List.mem_singleton.mp hk]; exact hr _⟩

/-- The better one of two best values is the best of both lists together. -/
theorem Best.both {le : EReal → EReal → Prop} (ht : ∀ a b c, le a b → le b c → le a c) {x : ℕ → EReal} {S T : List ℕ} {a b o p : EReal}
    (ha : Best le x S a o) (hb : Best le x T b p) {v w : EReal} (h : (v = b ∧ w = p ∧ le a b) ∨ (v = a ∧ w = o ∧ le b a)) : Best le x (S ++ T) v w := by
  obtain ⟨n, hn, rfl, rfl, hS⟩ := ha
  obtain ⟨k, hk, rfl, rfl, hT⟩ := hb
  rcases h with ⟨rfl, rfl, h⟩ | ⟨rfl, rfl, h⟩
  · exact ⟨k, List.mem_append_right _ hk, rfl, rfl, fun j hj => (List.mem_append.mp hj).elim (fun h' => ht _ _ _ (hS j h') h) (hT j)⟩
  · exact ⟨n, List.mem_append_left _ hn, rfl, rfl, fun j hj => (List.mem_append.mp hj).elim (hS j) (fun h' => ht _ _ _ (hT j h') h)⟩

/-- The column `n + l` of an array of 4096 columns. -/
def col (n : ℕ) (l : Fin 128) : Fin 4096 := ⟨(n + l.val) % 4096, Nat.mod_lt _ (by decide)⟩

/-- At every row and lane, `V` holds the best of the values that the chunks at the offsets `S` hold there, and `O` its offset. -/
def Bests (le : EReal → EReal → Prop) (x : Fin 512 → Fin 4096 → EReal) (S : List ℕ) (V O : FVec Ideal S512x128 .f32) : Prop :=
  ∀ (r : Fin 512) (l : Fin 128), Best le (fun n => x r (col n l)) S (V (ix2 r l)) (O (ix2 r l))

/-- A choice by a condition's bit. -/
theorem select_ofBool {α : Type} (c : Prop) [Decidable c] (a b : α) : Scalar.select (BitVec.ofBool (decide c)) a b = if c then a else b := by
  by_cases h : c <;> simp [Scalar.select, h]

/-- One round of the fold for the greatest. -/
theorem Bests.up {x : Fin 512 → Fin 4096 → EReal} {S T : List ℕ} {a b o p : FVec Ideal S512x128 .f32}
    (ha : Bests (· ≤ ·) x S a o) (hb : Bests (· ≤ ·) x T b p) :
    Bests (· ≤ ·) x (S ++ T) (select (cmpf .ogt b a) b a) (select (cmpf .ogt b a) p o) := fun r l => by
  refine Best.both (le := (· ≤ ·)) (fun _ _ _ h h' => le_trans h h') (ha r l) (hb r l) ?_
  show (Scalar.select (BitVec.ofBool (decide (a (ix2 r l) < b (ix2 r l)))) _ _ = _ ∧ Scalar.select (BitVec.ofBool (decide (a (ix2 r l) < b (ix2 r l)))) _ _ = _ ∧ _) ∨ _ ∧ _ ∧ _
  by_cases h : a (ix2 r l) < b (ix2 r l)
  · exact .inl ⟨(select_ofBool _ _ _).trans (if_pos h), (select_ofBool _ _ _).trans (if_pos h), h.le⟩
  · exact .inr ⟨(select_ofBool _ _ _).trans (if_neg h), (select_ofBool _ _ _).trans (if_neg h), not_lt.mp h⟩

/-- One round of the fold for the least. -/
theorem Bests.down {x : Fin 512 → Fin 4096 → EReal} {S T : List ℕ} {a b o p : FVec Ideal S512x128 .f32}
    (ha : Bests (· ≥ ·) x S a o) (hb : Bests (· ≥ ·) x T b p) :
    Bests (· ≥ ·) x (S ++ T) (select (cmpf .olt b a) b a) (select (cmpf .olt b a) p o) := fun r l => by
  refine Best.both (le := (· ≥ ·)) (fun _ _ _ h h' => ge_trans h h') (ha r l) (hb r l) ?_
  show (Scalar.select (BitVec.ofBool (decide (b (ix2 r l) < a (ix2 r l)))) _ _ = _ ∧ Scalar.select (BitVec.ofBool (decide (b (ix2 r l) < a (ix2 r l)))) _ _ = _ ∧ _) ∨ _ ∧ _ ∧ _
  by_cases h : b (ix2 r l) < a (ix2 r l)
  · exact .inl ⟨(select_ofBool _ _ _).trans (if_pos h), (select_ofBool _ _ _).trans (if_pos h), h.le⟩
  · exact .inr ⟨(select_ofBool _ _ _).trans (if_neg h), (select_ofBool _ _ _).trans (if_neg h), not_lt.mp h⟩

/-- What the fold for the greatest starts from: the values of the same label, the others at the bottom. -/
def posOf (C : FVec Ideal S512x4096 .f32) (M : IVec S512x4096 1) (r : Fin 512) (j : Fin 4096) : EReal := if M (ix2 r j) = 1#1 then C (ix2 r j) else ⊥
/-- What the fold for the least starts from: the values of the other labels, the same label's at the top. -/
def negOf (C : FVec Ideal S512x4096 .f32) (M : IVec S512x4096 1) (r : Fin 512) (j : Fin 4096) : EReal := if M (ix2 r j) = 1#1 then ⊤ else C (ix2 r j)

/-- A chunk of 128 columns, at a row and a lane. -/
theorem slice_at {α : Type} (y : S512x4096.Idx → α) {n : ℕ} (hn : n + 128 ≤ 4096) (h : S512x4096.Slices ![0, n] S512x128) (r : Fin 512) (l : Fin 128) :
    extractStridedSlice S512x128 ![0, n] y h (ix2 r l) = y (ix2 r (col n l)) := by
  pointwise
  refine congrArg (fun k => y (ix2 r k)) (Fin.ext ?_)
  show n + l.val = (n + l.val) % 4096
  omega

theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]

/-- A chunk where the fold for the greatest starts. -/
theorem Bests.posLeaf (C : FVec Ideal S512x4096 .f32) (M : IVec S512x4096 1) {n : ℕ} (h : S512x4096.Slices ![0, n] S512x128) (w : BitVec 32)
    (hn : n + 128 ≤ 4096) (hw : Ideal.ofBits .f32 w = ((n : ℝ) : EReal)) :
    Bests (· ≤ ·) (posOf C M) [n] (select (extractStridedSlice S512x128 ![0, n] M h) (extractStridedSlice S512x128 ![0, n] C h) (broadcast S512x128 (Scalar.ofBits (F := Ideal) .f32 0xFF800000#32)))
      (broadcast S512x128 (Scalar.ofBits (F := Ideal) .f32 w)) := fun r l => by
  have e := Best.one (le := (· ≤ ·)) le_refl (fun n => posOf C M r (col n l)) n
  rw [← hw] at e
  refine cast (congrArg₂ (Best _ _ _) ?_ rfl) e
  show _ = Scalar.select (extractStridedSlice S512x128 ![0, n] M h (ix2 r l)) (extractStridedSlice S512x128 ![0, n] C h (ix2 r l)) (Ideal.ofBits .f32 0xFF800000#32)
  rw [slice_at _ hn, slice_at _ hn, ofBits_bot]
  rfl

/-- A chunk where the fold for the least starts. -/
theorem Bests.negLeaf (C : FVec Ideal S512x4096 .f32) (M : IVec S512x4096 1) {n : ℕ} (h : S512x4096.Slices ![0, n] S512x128) (w : BitVec 32)
    (hn : n + 128 ≤ 4096) (hw : Ideal.ofBits .f32 w = ((n : ℝ) : EReal)) :
    Bests (· ≥ ·) (negOf C M) [n] (select (extractStridedSlice S512x128 ![0, n] M h) (broadcast S512x128 (Scalar.ofBits (F := Ideal) .f32 0x7F800000#32)) (extractStridedSlice S512x128 ![0, n] C h))
      (broadcast S512x128 (Scalar.ofBits (F := Ideal) .f32 w)) := fun r l => by
  have e := Best.one (le := (· ≥ ·)) (fun a => ge_of_eq rfl) (fun n => negOf C M r (col n l)) n
  rw [← hw] at e
  refine cast (congrArg₂ (Best _ _ _) ?_ rfl) e
  show _ = Scalar.select (extractStridedSlice S512x128 ![0, n] M h (ix2 r l)) (Ideal.ofBits .f32 0x7F800000#32) (extractStridedSlice S512x128 ![0, n] C h (ix2 r l))
  rw [slice_at _ hn, slice_at _ hn, ofBits_top]
  rfl

/-! ## A point's values, of the two folds -/

/-- The column of the extreme lanes of the folded values: the least of `offset + lane` where the value is the row's extreme one. -/
def colOf (V O : FVec Ideal S512x128 .f32) (e : FVec Ideal S512x1 .f32) : FVec Ideal S512 .f32 :=
  multiReduction .minimumf [1] S512
    (select (cmpf .oeq V (broadcastTo S512x128 e broadcasts_S512x1_S512x128)) (addf O (broadcastTo S512x128 k0_pay7 broadcasts_S1x128_S512x128)) (broadcast S512x128 (Scalar.ofBits (F := Ideal) .f32 0x45800000#32)))
    0x7F800000#32 reduces_S512x128_S512 (.inl rfl) rfl

/-- The greatest lane of every row. -/
def greatest (V : FVec Ideal S512x128 .f32) : FVec Ideal S512x1 .f32 :=
  shapeCast S512x1 (multiReduction .maximumf [1] S512 V 0xFF800000#32 reduces_S512x128_S512 (.inl rfl) rfl) shapeCasts_S512_S512x1
/-- The least lane of every row. -/
def least (V : FVec Ideal S512x128 .f32) : FVec Ideal S512x1 .f32 :=
  shapeCast S512x1 (multiReduction .minimumf [1] S512 V 0x7F800000#32 reduces_S512x128_S512 (.inl rfl) rfl) shapeCasts_S512_S512x1

/-- The sum over a point's rows of the hinge of greatest minus least plus one. -/
def hinges (p n : FVec Ideal S512x1 .f32) : Ideal .f32 :=
  extractAt ![0, 0, 0] (shapeCast S1x1x1 (multiReduction .add [1, 2] S1
    (shapeCast S1x512x1 (maximumf (addf (subf p n) (broadcast S512x1 (Scalar.ofBits (F := Ideal) .f32 0x3F800000#32))) (broadcast S512x1 (Scalar.ofBits (F := Ideal) .f32 0x00000000#32))) shapeCasts_S512x1_S1x512x1)
    0x00000000#32 reduces_S1x512x1_S1 (.inl rfl) rfl) shapeCasts_S1_S1x1x1) inpos_S1x1x1_p0_0_0

/-- The row `512 n + r` of an array of 4096 rows. -/
def row (n : ℕ) (r : Fin 512) : Fin 4096 := ⟨(512 * n + r.val) % 4096, Nat.mod_lt _ (by decide)⟩

/-- The offsets of the 32 chunks, and no other. -/
def All (S : List ℕ) : Prop := (∀ k < 32, 128 * k ∈ S) ∧ ∀ n ∈ S, n + 128 ≤ 4096

set_option maxHeartbeats 4000000 in
/-- A point's values are those of the two folds over the chunks of its rows' distances. -/
theorem trip_folds (i : grid0.Coords) (E : Vec Ideal S512x4096 .f32) (Q : Vec Ideal S1x4096 .f32) (x1 : Vec Ideal S4096x1 .i32) (x2 : Vec Ideal S1x4096 .i32) :
    ∃ (e : Vec Ideal S512x512 .f32) (x : Vec Ideal S512x1 .i32) (V O V' O' : FVec Ideal S512x128 .f32) (S S' : List ℕ),
      trip i E Q x1 x2 = concatenate S512x3 1
        [⟨S512x1, addi (broadcast S512x1 (Scalar.muli (BitVec.ofNat 32 (i 0).val) 512#32)) (iota .tc S512x1 32 [0] iota_S512x1_d0_w32)⟩,
         ⟨S512x1, fptosi 32 (shapeCast S512x1 (colOf V O (greatest V)) shapeCasts_S512_S512x1)⟩,
         ⟨S512x1, fptosi 32 (shapeCast S512x1 (colOf V' O' (least V')) shapeCasts_S512_S512x1)⟩] concatenates_S512x1_S512x1_S512x1_S512x3_d1
      ∧ total i E Q x1 x2 = hinges (greatest V) (least V')
      ∧ Bests (· ≤ ·) (posOf (k0_pay5 e E Q) (k0_pay6 x x2)) S V O
      ∧ Bests (· ≥ ·) (negOf (k0_pay5 e E Q) (k0_pay6 x x2)) S' V' O'
      ∧ All S ∧ All S'
      ∧ (∀ k r, e (ix2 k r) = E (ix2 k (row (i 0).val r)))
      ∧ (∀ r, x (ix2 r 0) = x1 (ix2 (row (i 0).val r) 0)) := by
  iterate 8 apply Exists.intro
  apply And.intro
  · exact rfl
  apply And.intro
  · exact rfl
  apply And.intro
  · iterate 5 all_goals apply Bests.up
    all_goals apply Bests.posLeaf
    all_goals first | exact Nat.le_of_ble_eq_true rfl | exact ⟨rfl, by decide⟩ | (simp [Ideal.ofBits, Ideal.ieee, -EReal.coe_mul]; done) | (simp [Ideal.ofBits, Ideal.ieee, -EReal.coe_mul]; norm_num)
  apply And.intro
  · iterate 5 all_goals apply Bests.down
    all_goals apply Bests.negLeaf
    all_goals first | exact Nat.le_of_ble_eq_true rfl | exact ⟨rfl, by decide⟩ | (simp [Ideal.ofBits, Ideal.ieee, -EReal.coe_mul]; done) | (simp [Ideal.ofBits, Ideal.ieee, -EReal.coe_mul]; norm_num)
  apply And.intro
  · unfold All; decide
  apply And.intro
  · unfold All; decide
  have hi : (i 0).val < 8 := (i 0).isLt
  have hw : BitVec.toNat (Scalar.indexCast (Scalar.muli (BitVec.ofNat 32 (i 0).val) 512#32)) = 512 * (i 0).val := by
    show (BitVec.ofNat 32 (i 0).val * 512#32).toNat = _
    rw [BitVec.toNat_mul, BitVec.toNat_ofNat, BitVec.toNat_ofNat]
    omega
  apply And.intro
  · intro k r
    pointwise
    refine congrArg (fun n => E (ix2 k n)) (Fin.ext ?_)
    show BitVec.toNat _ + r.val = (512 * (i 0).val + r.val) % 4096
    omega
  · intro r
    pointwise
    refine congrArg (fun n => x1 (ix2 n 0)) (Fin.ext ?_)
    show BitVec.toNat _ + r.val = (512 * (i 0).val + r.val) % 4096
    omega

end Cert.KernelIdeal.Hand
end
-- ==== Proof.Spec.lean ====
module

public import Idealize.ShloMosaic.Lib.Pointwise

@[expose] public section

noncomputable section

namespace Cert.Triplet

/-! ## Hard triplets of 4096 labelled rows, over the real numbers -/

/-- The product of two rows. -/
def dot (X : Fin 4096 → Fin 512 → ℝ) (i j : Fin 4096) : ℝ := ∑ k, X i k * X j k
/-- The squared distance of two rows. -/
def sqd (X : Fin 4096 → Fin 512 → ℝ) (i j : Fin 4096) : ℝ := dot X i i + dot X j j - 2 * dot X i j

/-- `p i` is the one farthest other row of row `i`'s label, at a positive distance, and `n i` the one nearest row of another label. -/
structure Hard (X : Fin 4096 → Fin 512 → ℝ) (L : Fin 4096 → BitVec 32) (p n : Fin 4096 → Fin 4096) : Prop where
  pos_same : ∀ i, L i = L (p i)
  pos_ne : ∀ i, i ≠ p i
  pos_gt : ∀ i, 0 < sqd X i (p i)
  pos_max : ∀ i j, j ≠ p i → L i = L j → i ≠ j → sqd X i j < sqd X i (p i)
  neg_diff : ∀ i, L i ≠ L (n i)
  neg_min : ∀ i j, j ≠ n i → L i ≠ L j → sqd X i (n i) < sqd X i j

/-- A row's hinge. -/
def hinge (X : Fin 4096 → Fin 512 → ℝ) (p n : Fin 4096 → Fin 4096) (i : Fin 4096) : ℝ := max (sqd X i (p i) - sqd X i (n i) + 1) 0

/-- The squared distance is the sum of the squared differences. -/
theorem sqd_eq (X : Fin 4096 → Fin 512 → ℝ) (i j : Fin 4096) : sqd X i j = ∑ k, (X i k - X j k) * (X i k - X j k) := by
  unfold sqd dot
  rw [Finset.mul_sum, ← Finset.sum_add_distrib, ← Finset.sum_sub_distrib]
  exact Finset.sum_congr rfl fun k _ => by ring

/-- A row's distance from itself is zero. -/
theorem sqd_self (X : Fin 4096 → Fin 512 → ℝ) (i : Fin 4096) : sqd X i i = 0 := by unfold sqd; ring

/-- A finite sum of real numbers, among the extended reals. -/
theorem coe_sum {ι : Type} (s : Finset ι) (f : ι → ℝ) : ((∑ k ∈ s, f k : ℝ) : EReal) = ∑ k ∈ s, ((f k : ℝ) : EReal) :=
  map_sum (⟨⟨Real.toEReal, rfl⟩, fun _ _ => rfl⟩ : ℝ →+ EReal) f s

/-- The greater of two real numbers, among the extended reals. -/
theorem coe_max (a b : ℝ) : ((max a b : ℝ) : EReal) = max (a : EReal) (b : EReal) := EReal.coe_strictMono.monotone.map_max

end Cert.Triplet
end
-- ==== Proof.Lanes.lean ====
module

public import proofs.«01_k».proof.Proof.Fold
public import proofs.«01_k».proof.Proof.Spec

@[expose] public section

set_option maxRecDepth 16384

noncomputable section

namespace Cert.KernelIdeal.Hand

open Cert.KernelIdeal Cert.KernelIdeal.Gen
open Idealize.ShloMosaic

/-! ## The lanes of a row: where the extreme value stands -/

/-- The greatest lane, as a fold of the lanes. -/
theorem greatest_at (V : FVec Ideal S512x128 .f32) (r : Fin 512) :
    greatest V (ix2 r 0) = Finset.univ.fold max (⊥ : EReal) (fun l : Fin 128 => V (ix2 r l)) := by
  pointwise [greatest]
  rw [ofBits_bot]

/-- The least lane, as a fold of the lanes. -/
theorem least_at (V : FVec Ideal S512x128 .f32) (r : Fin 512) :
    least V (ix2 r 0) = Finset.univ.fold min (⊤ : EReal) (fun l : Fin 128 => V (ix2 r l)) := by
  pointwise [least]
  rw [ofBits_top]

/-- The f32 word of 4096. -/
theorem ofBits_4096 : Ideal.ofBits .f32 0x45800000#32 = ((4096 : ℝ) : EReal) := by
  simp [Ideal.ofBits, Ideal.ieee, -EReal.coe_mul]; norm_num

/-- A lane's number as a word, read as a real number. -/
theorem lane_real (l : Fin 128) : FloatOps.sitofp (F := Ideal) .f32 (BitVec.ofNat 32 l.val) = ((l.val : ℝ) : EReal) := by
  show (((BitVec.ofNat 32 l.val).toInt : ℝ) : EReal) = _
  have h : (BitVec.ofNat 32 l.val).toInt = (l.val : ℤ) := by
    rw [BitVec.toInt_eq_toNat_of_lt, BitVec.toNat_ofNat]
    · omega
    · rw [BitVec.toNat_ofNat]; omega
  rw [h]; norm_cast

/-- The column found for a row, as a fold of the lanes. -/
theorem colOf_at (V O : FVec Ideal S512x128 .f32) (e : FVec Ideal S512x1 .f32) (r : Fin 512) :
    shapeCast S512x1 (colOf V O e) shapeCasts_S512_S512x1 (ix2 r 0)
      = Finset.univ.fold min (⊤ : EReal) (fun l : Fin 128 => if V (ix2 r l) = e (ix2 r 0) then O (ix2 r l) + ((l.val : ℝ) : EReal) else ((4096 : ℝ) : EReal)) := by
  pointwise [colOf, k0_pay7]
  rw [ofBits_top]
  simp only [lane_real, ofBits_4096]

/-- The sum of a point's hinges. -/
theorem hinges_eq (p n : FVec Ideal S512x1 .f32) :
    hinges p n = ∑ r : Fin 512, max (p (ix2 r 0) - n (ix2 r 0) + 1) 0 := by
  pointwise [hinges]
  exact Finset.sum_congr rfl fun r _ => by simp

/-- Where one column `p` alone is extreme, some lane holds its value, and every lane that holds it names the column `p`. -/
theorem lanes {le : EReal → EReal → Prop} (hr : ∀ a, le a a) {x : Fin 4096 → EReal} {S : List ℕ} {v o : Fin 128 → EReal}
    (hB : ∀ l, Best le (fun n => x (col n l)) S (v l) (o l)) (hS : All S) {p : Fin 4096} (hp : ∀ j, le (x p) (x j) → j = p) :
    (∃ l, v l = x p ∧ o l + ((l.val : ℝ) : EReal) = ((p.val : ℝ) : EReal)) ∧ (∀ l, v l = x p → o l + ((l.val : ℝ) : EReal) = ((p.val : ℝ) : EReal)) ∧ ∀ l, ∃ j, v l = x j := by
  have key : ∀ l, v l = x p → o l + ((l.val : ℝ) : EReal) = ((p.val : ℝ) : EReal) := fun l hl => by
    obtain ⟨n, hn, hv, ho, -⟩ := hB l
    have e : col n l = p := hp _ (by rw [← hl, hv]; exact hr _)
    have e' : n + l.val = p.val := by
      have h := congrArg Fin.val e
      have hn' := hS.2 n hn
      have hl' := l.isLt
      change (n + l.val) % 4096 = p.val at h
      omega
    rw [ho, ← EReal.coe_add, ← e']
    push_cast
    rfl
  refine ⟨?_, key, fun l => ?_⟩
  · have hp' := p.isLt
    obtain ⟨n, hn, hv, -, hbest⟩ := hB ⟨p.val % 128, Nat.mod_lt _ (by decide)⟩
    have e := hbest _ (hS.1 (p.val / 128) (by omega))
    have ec : col (128 * (p.val / 128)) ⟨p.val % 128, Nat.mod_lt _ (by decide)⟩ = p := Fin.ext (by
      show (128 * (p.val / 128) + p.val % 128) % 4096 = p.val
      omega)
    have e2 : v ⟨p.val % 128, Nat.mod_lt _ (by decide)⟩ = x p := by
      rw [hv]
      simp only [ec] at e
      exact congrArg x (hp _ e)
    exact ⟨_, e2, key _ e2⟩
  · obtain ⟨n, -, hv, -, -⟩ := hB l
    exact ⟨_, hv⟩

/-- The least of `p` where the lane names it and 4096 elsewhere is `p`. -/
theorem fold_col {v o : Fin 128 → EReal} {e : EReal} {p : Fin 4096}
    (h1 : ∃ l, v l = e ∧ o l + ((l.val : ℝ) : EReal) = ((p.val : ℝ) : EReal)) (h2 : ∀ l, v l = e → o l + ((l.val : ℝ) : EReal) = ((p.val : ℝ) : EReal)) :
    Finset.univ.fold min (⊤ : EReal) (fun l : Fin 128 => if v l = e then o l + ((l.val : ℝ) : EReal) else ((4096 : ℝ) : EReal)) = ((p.val : ℝ) : EReal) := by
  refine le_antisymm (Finset.fold_min_le _ |>.mpr (.inr ?_)) (Finset.le_fold_min _ |>.mpr ⟨le_top, fun l _ => ?_⟩)
  · obtain ⟨l, hl, ho⟩ := h1
    exact ⟨l, Finset.mem_univ _, by rw [if_pos hl, ho]⟩
  · split
    · rw [h2 l ‹_›]
    · exact EReal.coe_le_coe_iff.mpr (by exact_mod_cast p.isLt.le)

/-- Converting a column's number back to a word gives its word. -/
theorem fptosi_nat (p : Fin 4096) : FloatOps.fptosi (F := Ideal) (φ := .f32) 32 ((p.val : ℝ) : EReal) = BitVec.ofNat 32 p.val := by
  show Ideal.fptosi 32 ((p.val : ℝ) : EReal) = _
  have h : Ideal.toIntClamped (-(2 ^ (32 - 1) : ℕ)) ((2 ^ (32 - 1) : ℕ) - 1) ((p.val : ℝ) : EReal) = (p.val : ℤ) := by
    show max _ (min _ (if (0 : ℝ) ≤ (p.val : ℝ) then ⌊(p.val : ℝ)⌋ else ⌈(p.val : ℝ)⌉)) = _
    rw [if_pos (Nat.cast_nonneg _), Int.floor_natCast]
    have := p.isLt
    norm_num
    omega
  unfold Ideal.fptosi
  rw [h, BitVec.ofInt_natCast]

variable {C : FVec Ideal S512x4096 .f32} {M : IVec S512x4096 1} {V O : FVec Ideal S512x128 .f32} {S : List ℕ}

/-- The fold for the greatest finds the one column that is the greatest: its value and its number. -/
theorem pos_found (hB : Bests (· ≤ ·) (posOf C M) S V O) (hS : All S) (r : Fin 512) {p : Fin 4096} (hp : ∀ j, j ≠ p → posOf C M r j < posOf C M r p) :
    greatest V (ix2 r 0) = posOf C M r p
      ∧ FloatOps.fptosi (F := Ideal) (φ := .f32) 32 (shapeCast S512x1 (colOf V O (greatest V)) shapeCasts_S512_S512x1 (ix2 r 0)) = BitVec.ofNat 32 p.val := by
  obtain ⟨h1, h2, h3⟩ := lanes (le := (· ≤ ·)) le_refl (hB r) hS (p := p) fun j hj => by
    by_contra h
    exact absurd (hp j h) (not_lt.mpr hj)
  have hg : greatest V (ix2 r 0) = posOf C M r p := by
    rw [greatest_at]
    refine le_antisymm (Finset.fold_max_le _ |>.mpr ⟨bot_le, fun l _ => ?_⟩) (Finset.le_fold_max _ |>.mpr (.inr ?_))
    · obtain ⟨j, hj⟩ := h3 l
      rw [hj]
      by_cases h : j = p
      · rw [h]
      · exact (hp j h).le
    · obtain ⟨l, hl, -⟩ := h1
      exact ⟨l, Finset.mem_univ _, hl.ge⟩
  refine ⟨hg, ?_⟩
  rw [colOf_at, hg, fold_col h1 h2, fptosi_nat]

/-- The fold for the least finds the one column that is the least: its value and its number. -/
theorem neg_found (hB : Bests (· ≥ ·) (negOf C M) S V O) (hS : All S) (r : Fin 512) {p : Fin 4096} (hp : ∀ j, j ≠ p → negOf C M r p < negOf C M r j) :
    least V (ix2 r 0) = negOf C M r p
      ∧ FloatOps.fptosi (F := Ideal) (φ := .f32) 32 (shapeCast S512x1 (colOf V O (least V)) shapeCasts_S512_S512x1 (ix2 r 0)) = BitVec.ofNat 32 p.val := by
  obtain ⟨h1, h2, h3⟩ := lanes (le := (· ≥ ·)) (fun a => ge_of_eq rfl) (hB r) hS (p := p) fun j hj => by
    by_contra h
    exact absurd (hp j h) (not_lt.mpr hj)
  have hg : least V (ix2 r 0) = negOf C M r p := by
    rw [least_at]
    refine le_antisymm (Finset.fold_min_le _ |>.mpr (.inr ?_)) (Finset.le_fold_min _ |>.mpr ⟨le_top, fun l _ => ?_⟩)
    · obtain ⟨l, hl, -⟩ := h1
      exact ⟨l, Finset.mem_univ _, hl.le⟩
    · obtain ⟨j, hj⟩ := h3 l
      rw [hj]
      by_cases h : j = p
      · rw [h]
      · exact (hp j h).le
  refine ⟨hg, ?_⟩
  rw [colOf_at, hg, fold_col h1 h2, fptosi_nat]

/-! ## A point's distances and labels -/

/-- The f32 word of minus two. -/
theorem ofBits_neg_two : Ideal.ofBits .f32 0xC0000000#32 = ((-2 : ℝ) : EReal) := by
  simp [Ideal.ofBits, Ideal.ieee, -EReal.coe_mul, -EReal.coe_neg]; norm_num

/-- The squared norms less twice the products: a row's distances without its own norm. -/
theorem dists_at (e : Vec Ideal S512x512 .f32) (E : Vec Ideal S512x4096 .f32) (Q : Vec Ideal S1x4096 .f32) (r : Fin 512) (j : Fin 4096) :
    k0_pay5 e E Q (ix2 r j) = Q (ix2 0 j) + ∑ k : Fin 512, (e (ix2 k r) * ((-2 : ℝ) : EReal)) * E (ix2 k j) := by
  pointwise [k0_pay5]
  rw [ofBits_neg_two]

/-- Two words compare equal when they are one word. -/
theorem cmpi_eq_iff (a b : BitVec 32) : IntOp.cmpi .eq a b = 1#1 ↔ a = b := by
  show BitVec.ofBool (a == b) = 1#1 ↔ a = b
  by_cases h : a = b
  · simp [h]
  · rw [beq_false_of_ne h]; simp [h]

/-- Two rows have one label. -/
theorem same_at (x : Vec Ideal S512x1 .i32) (y : Vec Ideal S1x4096 .i32) (r : Fin 512) (j : Fin 4096) :
    k0_pay6 (F := Ideal) x y (ix2 r j) = 1#1 ↔ x (ix2 r 0) = y (ix2 0 j) := by
  pointwise [k0_pay6]
  exact cmpi_eq_iff _ _

/-- The scratch's first array is the embeddings transposed. -/
theorem scrE_at (x : Vec Ideal S4096x512 .f32) (k : Fin 512) (j : Fin 4096) : k0_pay3 x (ix2 k j) = x (ix2 j k) := by
  pointwise [k0_pay3, k0_pay2]

/-- The scratch's second array is the rows' squared norms. -/
theorem scrQ_at (x : Vec Ideal S4096x512 .f32) (j : Fin 4096) : k0_pay4 x (ix2 0 j) = ∑ k : Fin 512, x (ix2 j k) * x (ix2 j k) := by
  pointwise [k0_pay4, k0_pay2]

/-! ## A point's results -/

section
open Cert.Triplet

variable {X : Fin 4096 → Fin 512 → ℝ} {L : Fin 4096 → BitVec 32} {p n : Fin 4096 → Fin 4096}

/-- A point's distances are the squared distances less the row's own squared norm. -/
theorem dists_real {e : Vec Ideal S512x512 .f32} {x : Vec Ideal S4096x512 .f32} {t : ℕ} (hX : ∀ i k, x (ix2 i k) = ((X i k : ℝ) : EReal))
    (he : ∀ k r, e (ix2 k r) = k0_pay3 x (ix2 k (row t r))) (r : Fin 512) (j : Fin 4096) :
    k0_pay5 e (k0_pay3 x) (k0_pay4 x) (ix2 r j) = ((sqd X (row t r) j - dot X (row t r) (row t r) : ℝ) : EReal) := by
  rw [dists_at, scrQ_at]
  simp only [he, scrE_at, hX, ← EReal.coe_mul, ← coe_sum, ← EReal.coe_add]
  refine congrArg _ ?_
  unfold sqd dot
  rw [Finset.mul_sum]
  have h : ∀ k, X (row t r) k * -2 * X j k = -(2 * (X (row t r) k * X j k)) := fun k => by ring
  simp only [h, Finset.sum_neg_distrib]
  ring

/-- A row's number as a word. -/
theorem row_word {t : ℕ} (ht : t < 8) (r : Fin 512) : BitVec.ofNat 32 t * 512#32 + BitVec.ofNat 32 r.val = BitVec.ofNat 32 (row t r).val := by
  have hr := r.isLt
  have e : (row t r).val = (512 * t + r.val) % 4096 := rfl
  apply BitVec.eq_of_toNat_eq
  rw [BitVec.toNat_add, BitVec.toNat_mul, BitVec.toNat_ofNat, BitVec.toNat_ofNat, BitVec.toNat_ofNat, BitVec.toNat_ofNat, e]
  omega

/-- What a point finds for its rows, where the hard triplets are unambiguous. -/
theorem point (H : Hard X L p n) {x : Vec Ideal S4096x512 .f32} {y : Vec Ideal S4096x1 .i32} {z : Vec Ideal S1x4096 .i32}
    (hX : ∀ i k, x (ix2 i k) = ((X i k : ℝ) : EReal)) (hy : ∀ i, y (ix2 i 0) = L i) (hz : ∀ i, z (ix2 0 i) = L i) (i : grid0.Coords) :
    (∀ r : Fin 512, trip i (k0_pay3 x) (k0_pay4 x) y z (ix2 r 0) = BitVec.ofNat 32 (row (i 0).val r).val
      ∧ trip i (k0_pay3 x) (k0_pay4 x) y z (ix2 r 1) = BitVec.ofNat 32 (p (row (i 0).val r)).val
      ∧ trip i (k0_pay3 x) (k0_pay4 x) y z (ix2 r 2) = BitVec.ofNat 32 (n (row (i 0).val r)).val)
      ∧ total i (k0_pay3 x) (k0_pay4 x) y z = ((∑ r : Fin 512, hinge X p n (row (i 0).val r) : ℝ) : EReal) := by
  obtain ⟨e, w, V, O, V', O', S, S', htrip, htotal, hB, hB', hS, hS', he, hw⟩ := trip_folds i (k0_pay3 x) (k0_pay4 x) y z
  have hpos : ∀ r j, posOf (k0_pay5 e (k0_pay3 x) (k0_pay4 x)) (k0_pay6 w z) r j
      = if L (row (i 0).val r) = L j then ((sqd X (row (i 0).val r) j - dot X (row (i 0).val r) (row (i 0).val r) : ℝ) : EReal) else ⊥ := fun r j => by
    unfold posOf
    rw [dists_real hX he]
    exact if_congr ((same_at _ _ _ _).trans (by rw [hw, hy, hz])) rfl rfl
  have hneg : ∀ r j, negOf (k0_pay5 e (k0_pay3 x) (k0_pay4 x)) (k0_pay6 w z) r j
      = if L (row (i 0).val r) = L j then ⊤ else ((sqd X (row (i 0).val r) j - dot X (row (i 0).val r) (row (i 0).val r) : ℝ) : EReal) := fun r j => by
    unfold negOf
    rw [dists_real hX he]
    exact if_congr ((same_at _ _ _ _).trans (by rw [hw, hy, hz])) rfl rfl
  have hp := fun r => pos_found hB hS r (p := p (row (i 0).val r)) fun j hj => by
    rw [hpos, hpos, if_pos (H.pos_same _)]
    split
    · rename_i hl
      refine EReal.coe_lt_coe_iff.mpr (sub_lt_sub_right ?_ _)
      by_cases hs : row (i 0).val r = j
      · rw [← hs, sqd_self]; exact H.pos_gt _
      · exact H.pos_max _ _ hj hl hs
    · exact EReal.bot_lt_coe _
  have hn := fun r => neg_found hB' hS' r (p := n (row (i 0).val r)) fun j hj => by
    rw [hneg, hneg, if_neg (H.neg_diff _)]
    split
    · exact EReal.coe_lt_top _
    · exact EReal.coe_lt_coe_iff.mpr (sub_lt_sub_right (H.neg_min _ _ hj ‹_›) _)
  refine ⟨fun r => ⟨?_, ?_, ?_⟩, ?_⟩
  · rw [htrip]
    pointwise
    exact row_word (i 0).isLt r
  · rw [htrip]
    refine Eq.trans ?_ (hp r).2
    pointwise
  · rw [htrip]
    refine Eq.trans ?_ (hn r).2
    pointwise
  · rw [htotal, hinges_eq, coe_sum]
    refine Finset.sum_congr rfl fun r _ => ?_
    rw [(hp r).1, (hn r).1, hpos, hneg, if_pos (H.pos_same _), if_neg (H.neg_diff _)]
    unfold hinge
    rw [coe_max, ← EReal.coe_sub, ← EReal.coe_one, ← EReal.coe_add]
    refine congrArg₂ max (congrArg _ ?_) rfl
    ring

end

end Cert.KernelIdeal.Hand
end
-- ==== Proof.KerValue.lean ====
module

public import proofs.«01_k».proof.Proof.Final
public import proofs.«01_k».proof.Proof.Lanes

@[expose] public section

set_option maxRecDepth 16384

noncomputable section

namespace Cert.KernelIdeal.Hand

open Cert.KernelIdeal Cert.KernelIdeal.Gen Cert.Triplet
open Idealize.ShloMosaic Idealize.ShloMosaic.TcCoe Idealize.ShloMosaic.Tactic
open Idealize.SL Idealize.SL.Sem

/-! ## The kernel's two results over the extended reals -/

/-- Between the first and the last point the running sum grows by the point's, -/
theorem acc_mid (a : BitVec 32) (h0 : a ≠ 0#32) (h7 : a ≠ 7#32) (s d : Ideal .f32) : k0_pay1 a s d = (d + s : EReal) := by
  unfold k0_pay1
  have e0 : Scalar.cmpi .eq a 0#32 = 0#1 := congrArg BitVec.ofBool (beq_false_of_ne h0)
  have e7 : Scalar.cmpi .eq a 7#32 = 0#1 := congrArg BitVec.ofBool (beq_false_of_ne h7)
  simp only [e0, e7]
  rfl

/-- A real number divided by the number of rows. -/
theorem div_4096 (x : ℝ) : Ideal.div (x : EReal) ((4096 : ℝ) : EReal) = ((x / 4096 : ℝ) : EReal) := by
  rw [Ideal.div_coe (by norm_num), ← EReal.coe_mul, mul_one_div]

/-- and at the last point it is divided by the number of rows too. -/
theorem acc_last (s d : ℝ) : k0_pay1 (F := Ideal) 7#32 (s : EReal) (d : EReal) = (((d + s) / 4096 : ℝ) : EReal) := by
  have e : k0_pay1 (F := Ideal) 7#32 (s : EReal) (d : EReal) = Ideal.div ((d : EReal) + (s : EReal)) (Ideal.ofBits .f32 0x45800000#32) := rfl
  rw [e, ofBits_4096, ← EReal.coe_add, div_4096]

/-- The points' rows are all the rows. -/
theorem rows_sum (f : Fin 4096 → ℝ) : ∑ t ∈ Finset.range 8, ∑ r : Fin 512, f (row t r) = ∑ i, f i := by
  rw [Finset.sum_range (n := 8) (f := fun t => ∑ r : Fin 512, f (row t r)), ← Fintype.sum_prod_type' (f := fun (t : Fin 8) (r : Fin 512) => f (row t.val r))]
  refine Fintype.sum_equiv (finProdFinEquiv (m := 8) (n := 512)) _ _ fun q => congrArg f (Fin.ext ?_)
  show (512 * q.1.val + q.2.val) % 4096 = q.2.val + 512 * q.1.val
  have := q.1.isLt; have := q.2.isLt
  omega

variable (m : (ℓ : Loc nD τ sig) → Buf (Elt Ideal) ℓ) (c : Dev nD)
variable {X : Fin 4096 → Fin 512 → ℝ} {L : Fin 4096 → BitVec 32} {p n : Fin 4096 → Fin 4096}

/-- A point's rows and sum, over real embeddings with their hard triplets. -/
theorem pointAt (H : Hard X L p n)
    (hX : ∀ i k, (m ((c : Thread nD τ).loc main_arg2) : Vec Ideal S4096x512 .f32) (ix2 i k) = ((X i k : ℝ) : EReal))
    (hL : ∀ i, (m ((c : Thread nD τ).loc main_arg3) : Vec Ideal S4096 .i32) (ix1 i) = L i) (t : Fin cfg0.N) :
    (∀ r, tripAt m c t (ix2 r 0) = BitVec.ofNat 32 (row t.val r).val ∧ tripAt m c t (ix2 r 1) = BitVec.ofNat 32 (p (row t.val r)).val
      ∧ tripAt m c t (ix2 r 2) = BitVec.ofNat 32 (n (row t.val r)).val)
    ∧ totalAt m c t = ((∑ r : Fin 512, hinge X p n (row t.val r) : ℝ) : EReal) := by
  rw [← coord_val t]
  exact point H (fun i k => (congrFun (emb_at m c) (ix2 i k)).trans (hX i k)) (fun i => (labCol_at m c i).trans (hL i))
    (fun i => (labRow_at m c i).trans (hL i)) (grid0.coords t)

/-- A row of the triplet array: the row, its hardest positive and its hardest negative. -/
theorem triples_at (H : Hard X L p n)
    (hX : ∀ i k, (m ((c : Thread nD τ).loc main_arg2) : Vec Ideal S4096x512 .f32) (ix2 i k) = ((X i k : ℝ) : EReal))
    (hL : ∀ i, (m ((c : Thread nD τ).loc main_arg3) : Vec Ideal S4096 .i32) (ix1 i) = L i) (i : Fin 4096) :
    triples m c (ix2 i 0) = BitVec.ofNat 32 i.val ∧ triples m c (ix2 i 1) = BitVec.ofNat 32 (p i).val ∧ triples m c (ix2 i 2) = BitVec.ofNat 32 (n i).val := by
  have h := (pointAt m c H hX hL (pt (i.val / 512))).1 ⟨i.val % 512, Nat.mod_lt _ (by decide)⟩
  have hr : row (pt (i.val / 512)).val ⟨i.val % 512, Nat.mod_lt _ (by decide)⟩ = i := Fin.ext (by
    have := i.isLt
    show (512 * (i.val / 512 % 8) + i.val % 512) % 4096 = i.val
    omega)
  rw [hr] at h
  exact h

/-- Before the last point the running sum is the sum of the points' so far, -/
theorem loss_upto (H : Hard X L p n)
    (hX : ∀ i k, (m ((c : Thread nD τ).loc main_arg2) : Vec Ideal S4096x512 .f32) (ix2 i k) = ((X i k : ℝ) : EReal))
    (hL : ∀ i, (m ((c : Thread nD τ).loc main_arg3) : Vec Ideal S4096 .i32) (ix1 i) = L i) (k : ℕ) (hk : k < 7) :
    lossAt m c k = ((∑ t ∈ Finset.range (k + 1), ∑ r : Fin 512, hinge X p n (row t r) : ℝ) : EReal) := by
  have hp : ∀ k < 8, totalAt m c (pt k) = ((∑ r : Fin 512, hinge X p n (row k r) : ℝ) : EReal) := fun k hk => by
    rw [(pointAt m c H hX hL (pt k)).2]
    simp only [Nat.mod_eq_of_lt hk]
  induction k with
  | zero => rw [Finset.sum_range_one]; exact hp 0 (by omega)
  | succ k ih =>
    have h0 : BitVec.ofNat 32 (k + 1) ≠ 0#32 := fun h => by have := congrArg BitVec.toNat h; simp at this; omega
    have h7 : BitVec.ofNat 32 (k + 1) ≠ 7#32 := fun h => by have := congrArg BitVec.toNat h; simp at this; omega
    rw [lossAt, acc_mid _ h0 h7, ih (by omega), hp (k + 1) (by omega), ← EReal.coe_add, Finset.sum_range_succ _ (k + 1)]

/-- and the loss is the mean of the rows' hinges. -/
theorem loss_at (H : Hard X L p n)
    (hX : ∀ i k, (m ((c : Thread nD τ).loc main_arg2) : Vec Ideal S4096x512 .f32) (ix2 i k) = ((X i k : ℝ) : EReal))
    (hL : ∀ i, (m ((c : Thread nD τ).loc main_arg3) : Vec Ideal S4096 .i32) (ix1 i) = L i) :
    lossAt m c 7 = (((∑ i, hinge X p n i) / 4096 : ℝ) : EReal) := by
  have h7 := (pointAt m c H hX hL (pt 7)).2
  rw [lossAt, loss_upto m c H hX hL 6 (by omega), h7]
  refine (acc_last _ _).trans ?_
  rw [← rows_sum, Finset.sum_range_succ _ 7]

variable (ρ : Dev nD → PrngReg)

/-- The kernel's run: its results are the mean loss and the triplet array, and its arguments end unchanged. -/
theorem run_results : θ_run defs (onTc (τ := τ) (main (F := Ideal))) ⟨m, fun _ => 0, ρ⟩ (fun r => ∀ c : Dev nD,
      r.2.mem ((c.tc : Thread nD τ).loc main_v3) = (fun _ => lossAt m c 7)
      ∧ r.2.mem ((c.tc : Thread nD τ).loc main_v2_1) = triples m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).2 main_v3 (Pipeline.mem_restRefs_of main_v3 (by decide) (by decide))).trans (loss_read m c),
      ((h.1.1 c).1 4).trans (final4 m c), h.2.1 c⟩)
    (θ_run_and (run_main_quiescent m ρ) (frame m ρ))

end Cert.KernelIdeal.Hand
end
-- ==== Proof.Arg.lean ====
module

public import proofs.«01_k».proof.Proof.RefRun
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Triplet
open Idealize.ShloMosaic Idealize.ShloMosaic.TcCoe Idealize.ShloMosaic.Tactic

/-- A gather of rows reads the row that its index names. -/
theorem gather_at {α : Type} (x : S4096x512.Idx → α) (v : IVec S4096x1 32) (i : Fin 4096) (k : Fin 512) (q : Fin 4096)
    (hv : v (ix2 i 0) = BitVec.ofNat 32 q.val) :
    Host.gather gather_S4096x512_S4096x1_S4096x512_1_0_n_n_0_1_1512 x v (ix2 i k) = x (ix2 q k) := by
  have hq := q.isLt
  have hn : (BitVec.ofNat 32 q.val).toInt.toNat = q.val := by
    rw [BitVec.toInt_eq_toNat_of_lt (by simp; omega)]; simp; omega
  refine congrArg x (funext fun a => Fin.ext ?_)
  match a with
  | ⟨0, _⟩ =>
    have h : (gather_S4096x512_S4096x1_S4096x512_1_0_n_n_0_1_1512.operandIdx (ix2 i k) v 0).val = min (v (ix2 i 0)).toInt.toNat 4095 := by
      show min (v _).toInt.toNat 4095 = _
      congr 4
      funext b
      match b with
      | ⟨0, _⟩ => rfl
      | ⟨1, _⟩ => rfl
    refine h.trans ?_
    rw [hv, hn]
    show min q.val 4095 = q.val
    omega
  | ⟨1, _⟩ =>
    show 0 + 0 + k.val = k.val
    omega

/-- A fold whose body keeps `b` against anything `S` holds of, and whose elements are `b` or are such, ends at `b`. -/
theorem fold_unique {γ : Type} (f : γ → γ → γ) (b : γ) (S : γ → Prop) (h1 : ∀ q, S q → f b q = b) (h2 : ∀ q, S q → f q b = b) (h3 : f b b = b)
    (h4 : ∀ q q', S q → S q' → S (f q q')) (l : List γ) : ∀ a, (a = b ∨ S a) → (∀ q ∈ l, q = b ∨ S q) → (a = b ∨ b ∈ l) → l.foldl f a = b := by
  induction l with
  | nil => intro a _ _ h; simpa using h
  | cons q l ih =>
    intro a ha hl h
    have hq := hl q List.mem_cons_self
    refine ih (f a q) ?_ (fun r hr => hl r (List.mem_cons_of_mem _ hr)) ?_
    · rcases ha with rfl | ha <;> rcases hq with rfl | hq
      · exact .inl h3
      · exact .inl (h1 _ hq)
      · exact .inl (h2 _ ha)
      · exact .inr (h4 _ _ ha hq)
    · rcases h with rfl | h
      · rcases hq with rfl | hq
        · exact .inl h3
        · exact .inl (h1 _ hq)
      · rcases List.mem_cons.mp h with rfl | h
        · rcases ha with rfl | ha
          · exact .inl h3
          · exact .inl (h2 _ ha)
        · exact .inr h

/-- The pairs of a row: its values, each with its column. -/
theorem fiber_mem (y : Vec Ideal S4096x4096 .f32) (i : Fin 4096) (q : Ideal .f32 × BitVec 32) :
    q ∈ Host.argReduceFiber y (iotaInDim S4096x4096 32 1) reducesTo_S4096x4096_S4096_d1 (ix1 i) ↔ ∃ k : Fin 4096, q = (y (ix2 i k), BitVec.ofNat 32 k.val) := by
  unfold Host.argReduceFiber
  simp only [List.mem_map, List.mem_filter, List.mem_finRange, true_and, decide_eq_true_eq]
  constructor
  · rintro ⟨n, h, rfl⟩
    obtain ⟨k, hk⟩ := (reducesTo_S4096x4096_S4096_d1.fiber_r2_a1 (ix1 i) _).mp h
    exact ⟨k, by rw [← hk]; rfl⟩
  · rintro ⟨k, rfl⟩
    refine ⟨S4096x4096.rowMajor (ix2 i k), ?_, ?_⟩
    · rw [Equiv.symm_apply_apply]
      exact (reducesTo_S4096x4096_S4096_d1.fiber_r2_a1 (ix1 i) _).mpr ⟨k, rfl⟩
    · rw [Equiv.symm_apply_apply]; rfl

/-- What makes a body on pairs pick the first value in the order `lt`, with its index. -/
structure Picks (lt : EReal → EReal → Prop) (f : Ideal .f32 × BitVec 32 → Ideal .f32 × BitVec 32 → Ideal .f32 × BitVec 32) : Prop where
  left : ∀ a b, lt b.1 a.1 → f a b = a
  right : ∀ a b, lt a.1 b.1 → f a b = b
  same : ∀ a, f a a = a
  below : ∀ (v : EReal) a b, lt a.1 v → lt b.1 v → lt (f a b).1 v

/-- Such a body folded over a row ends at the row's one first value and its column. -/
theorem arg_at {lt : EReal → EReal → Prop} {f : Ideal .f32 × BitVec 32 → Ideal .f32 × BitVec 32 → Ideal .f32 × BitVec 32} (hf : Picks lt f)
    (y : Vec Ideal S4096x4096 .f32) (u : Vec Ideal S_ .f32) (w : Vec Ideal S_ .i32) (i p : Fin 4096) (hu : ∀ z, lt (u z) (y (ix2 i p)))
    (h : ∀ j, j ≠ p → lt (y (ix2 i j)) (y (ix2 i p))) :
    (Host.argReduce f y (iotaInDim S4096x4096 32 1) u w reducesTo_S4096x4096_S4096_d1 h_S_ (ix1 i)).2 = BitVec.ofNat 32 p.val := by
  rw [Ideal.argReduce_eq_reduce2, Host.reduce2_eq_foldl_fiber]
  refine congrArg Prod.snd (fold_unique f (y (ix2 i p), BitVec.ofNat 32 p.val) (fun q => lt q.1 (y (ix2 i p))) (fun q hq => hf.left _ _ hq)
    (fun q hq => hf.right _ _ hq) (hf.same _) (fun q q' => hf.below _ q q') _ _ (.inr (hu _)) (fun q hq => ?_) (.inr ?_))
  · obtain ⟨k, rfl⟩ := (fiber_mem y i q).mp hq
    by_cases hk : k = p
    · exact .inl (by rw [hk])
    · exact .inr (h k hk)
  · exact (fiber_mem y i _).mpr ⟨p, rfl⟩

/-- The body of an arg-max picks the greatest value, -/
theorem picks_max : Picks (· < ·) (reducer_argmax_f32_i32 (F := Ideal)) where
  left a b h := by
    simp [reducer_argmax_f32_i32, Ideal.cmpf_def, Ideal.cmp, h, h.ne, h.ne', Scalar.select, IntOp.ori, IntOp.andi]
  right a b h := by
    simp [reducer_argmax_f32_i32, Ideal.cmpf_def, Ideal.cmp, h, h.ne, h.not_gt, Scalar.select, IntOp.ori, IntOp.andi]
  same a := by
    simp [reducer_argmax_f32_i32, Ideal.cmpf_def, Ideal.cmp, Scalar.select, IntOp.ori, IntOp.andi]
  below v a b ha hb := by
    simp only [reducer_argmax_f32_i32, Scalar.select]
    split
    · exact ha
    · exact hb

/-- and that of an arg-min the least. -/
theorem picks_min : Picks (· > ·) (reducer_argmin_f32_i32 (F := Ideal)) where
  left a b h := by
    simp [reducer_argmin_f32_i32, Ideal.cmpf_def, Ideal.cmp, h, h.ne, h.ne', Scalar.select, IntOp.ori, IntOp.andi]
  right a b h := by
    simp [reducer_argmin_f32_i32, Ideal.cmpf_def, Ideal.cmp, h, h.ne', h.not_gt, Scalar.select, IntOp.ori, IntOp.andi]
  same a := by
    simp [reducer_argmin_f32_i32, Ideal.cmpf_def, Ideal.cmp, Scalar.select, IntOp.ori, IntOp.andi]
  below v a b ha hb := by
    simp only [reducer_argmin_f32_i32, Scalar.select]
    split
    · exact ha
    · exact hb

end Cert.ReferenceIdeal.Hand
end
-- ==== Proof.RefValue.lean ====
module

public import proofs.«01_k».proof.Proof.Arg
public import proofs.«01_k».proof.Proof.Lanes

@[expose] public section

set_option maxRecDepth 16384

noncomputable section

namespace Cert.ReferenceIdeal.Hand

open Cert.ReferenceIdeal Cert.ReferenceIdeal.Gen Cert.Triplet
open Idealize.ShloMosaic Idealize.ShloMosaic.TcCoe Idealize.ShloMosaic.Tactic

/-! ## The reference's two results over the extended reals -/

variable {X : Fin 4096 → Fin 512 → ℝ} {L : Fin 4096 → BitVec 32} {p n : Fin 4096 → Fin 4096}
variable {x : Vec Ideal S4096x512 .f32} {l : Vec Ideal S4096 .i32}

/-- The f32 word of 2. -/
theorem ofBits_two : Ideal.ofBits .f32 0x40000000#32 = ((2 : ℝ) : EReal) := by
  simp [Ideal.ofBits, Ideal.ieee, -EReal.coe_mul]; norm_num

/-- The distance array holds the squared distances. -/
theorem d2_at (hX : ∀ i k, x (ix2 i k) = ((X i k : ℝ) : EReal)) (i j : Fin 4096) : d2 x (ix2 i j) = ((sqd X i j : ℝ) : EReal) := by
  pointwise [d2, sq]
  simp only [hX, ofBits_two, ← EReal.coe_mul, ← coe_sum, ← EReal.coe_add, ← EReal.coe_sub]
  rfl

/-- Whether two rows have one label. -/
theorem same_at (hL : ∀ i, l (ix1 i) = L i) (i j : Fin 4096) : same (F := Ideal) l (ix2 i j) = BitVec.ofBool (decide (L i = L j)) := by
  pointwise [same]
  rw [hL, hL]
  rfl

/-- Whether two rows are one row. -/
theorem self_at (i j : Fin 4096) : self (F := Ideal) (ix2 i j) = BitVec.ofBool (decide (i = j)) := by
  pointwise [self]
  show BitVec.ofBool (BitVec.ofNat 32 i.val + 0#32 == BitVec.ofNat 32 j.val) = _
  rw [BitVec.add_zero]
  refine congrArg BitVec.ofBool ?_
  rw [beq_eq_decide]
  refine decide_eq_decide.mpr ⟨fun h => Fin.ext ?_, fun h => by rw [h]⟩
  have h := congrArg BitVec.toNat h
  have := i.isLt; have := j.isLt
  simp only [BitVec.toNat_ofNat] at h
  omega

/-- The masked distances of the positives, -/
theorem posD_at (hX : ∀ i k, x (ix2 i k) = ((X i k : ℝ) : EReal)) (hL : ∀ i, l (ix1 i) = L i) (i j : Fin 4096) :
    posD x l (ix2 i j) = if L i = L j ∧ i ≠ j then ((sqd X i j : ℝ) : EReal) else ⊥ := by
  pointwise [posD]
  rw [same_at hL, self_at, d2_at hX, Cert.KernelIdeal.Hand.ofBits_bot]
  by_cases h : L i = L j <;> by_cases h' : i = j <;> simp [h, h', Scalar.select, IntOp.andi]

/-- and of the negatives. -/
theorem negD_at (hX : ∀ i k, x (ix2 i k) = ((X i k : ℝ) : EReal)) (hL : ∀ i, l (ix1 i) = L i) (i j : Fin 4096) :
    negD x l (ix2 i j) = if L i = L j then ⊤ else ((sqd X i j : ℝ) : EReal) := by
  pointwise [negD]
  rw [same_at hL, d2_at hX, Cert.KernelIdeal.Hand.ofBits_top]
  by_cases h : L i = L j <;> simp [h, Scalar.select]

/-- A constant's element. -/
theorem constant_at (w : BitVec 32) (z : S_.Idx) : constant (F := Ideal) S_ .f32 w z = Ideal.ofBits .f32 w := rfl

section
variable {F : FTy → Type} [FloatOps F]

/-- The columns an arg-reduction of every row ends at, of any body and any starting values. -/
def argFrom (f : F .f32 × BitVec 32 → F .f32 × BitVec 32 → F .f32 × BitVec 32) (y : Vec F S4096x4096 .f32) (u : FVec F S_ .f32) (w : IVec S_ 32) : IVec S4096 32 :=
  fun j => (Host.argReduce f y (iotaInDim S4096x4096 32 1) u w reducesTo_S4096x4096_S4096_d1 h_S_ j).2

/-- The arg-max and the arg-min are two such, of whatever numbers. -/
theorem argmax_eq (y : Vec F S4096x4096 .f32) : argmax y = argFrom reducer_argmax_f32_i32 y (constant S_ .f32 0xFF800000#32) (constantI S_ 32 0#32) := rfl
theorem argmin_eq (y : Vec F S4096x4096 .f32) : argmin y = argFrom reducer_argmin_f32_i32 y (constant S_ .f32 0x7F800000#32) (constantI S_ 32 0#32) := rfl
end

/-- The arg-reduction of extended reals, written out. -/
theorem argFrom_eq (f : Ideal .f32 × BitVec 32 → Ideal .f32 × BitVec 32 → Ideal .f32 × BitVec 32) (y : Vec Ideal S4096x4096 .f32) (u : FVec Ideal S_ .f32) (w : IVec S_ 32) :
    argFrom f y u w = fun j => (Host.argReduce f y (iotaInDim S4096x4096 32 1) u w reducesTo_S4096x4096_S4096_d1 h_S_ j).2 := rfl

/-- It ends at the row's one first value. -/
theorem argFrom_at {lt : EReal → EReal → Prop} {f : Ideal .f32 × BitVec 32 → Ideal .f32 × BitVec 32 → Ideal .f32 × BitVec 32} (hf : Picks lt f)
    (y : Vec Ideal S4096x4096 .f32) (u : FVec Ideal S_ .f32) (w : IVec S_ 32) (i q : Fin 4096) (hu : ∀ z, lt (u z) (y (ix2 i q)))
    (h : ∀ j, j ≠ q → lt (y (ix2 i j)) (y (ix2 i q))) : argFrom f y u w (ix1 i) = BitVec.ofNat 32 q.val :=
  (congrFun (argFrom_eq f y u w) (ix1 i)).trans (arg_at hf y u w i q hu h)

/-- The arg-max of a row with one greatest value, above negative infinity, is that value's column, -/
theorem argmax_at (y : Vec Ideal S4096x4096 .f32) (i q : Fin 4096) (hu : ⊥ < y (ix2 i q)) (h : ∀ j, j ≠ q → y (ix2 i j) < y (ix2 i q)) :
    argmax y (ix1 i) = BitVec.ofNat 32 q.val := by
  rw [argmax_eq]
  exact argFrom_at picks_max y _ _ i q (fun z => by rw [constant_at, Cert.KernelIdeal.Hand.ofBits_bot]; exact hu) h

/-- and the arg-min of a row with one least value, below infinity. -/
theorem argmin_at (y : Vec Ideal S4096x4096 .f32) (i q : Fin 4096) (hu : y (ix2 i q) < ⊤) (h : ∀ j, j ≠ q → y (ix2 i q) < y (ix2 i j)) :
    argmin y (ix1 i) = BitVec.ofNat 32 q.val := by
  rw [argmin_eq]
  exact argFrom_at picks_min y _ _ i q (fun z => by rw [constant_at, Cert.KernelIdeal.Hand.ofBits_top]; exact hu) h

/-- The arg-max of the positives is the hardest positive, -/
theorem argmax_pos (H : Hard X L p n) (hX : ∀ i k, x (ix2 i k) = ((X i k : ℝ) : EReal)) (hL : ∀ i, l (ix1 i) = L i) (i : Fin 4096) :
    argmax (posD x l) (ix1 i) = BitVec.ofNat 32 (p i).val := by
  have hp : posD x l (ix2 i (p i)) = ((sqd X i (p i) : ℝ) : EReal) := by rw [posD_at hX hL, if_pos ⟨H.pos_same i, H.pos_ne i⟩]
  have hj : ∀ j, j ≠ p i → posD x l (ix2 i j) < ((sqd X i (p i) : ℝ) : EReal) := fun j hj => by
    rw [posD_at hX hL]
    split
    · rename_i h; exact EReal.coe_lt_coe_iff.mpr (H.pos_max i j hj h.1 h.2)
    · exact EReal.bot_lt_coe _
  generalize posD x l = y at hp hj
  exact argmax_at y i (p i) (hp ▸ EReal.bot_lt_coe _) (fun j h => hp ▸ hj j h)

/-- and the arg-min of the negatives the hardest negative. -/
theorem argmin_neg (H : Hard X L p n) (hX : ∀ i k, x (ix2 i k) = ((X i k : ℝ) : EReal)) (hL : ∀ i, l (ix1 i) = L i) (i : Fin 4096) :
    argmin (negD x l) (ix1 i) = BitVec.ofNat 32 (n i).val := by
  have hn : negD x l (ix2 i (n i)) = ((sqd X i (n i) : ℝ) : EReal) := by rw [negD_at hX hL, if_neg (H.neg_diff i)]
  have hj : ∀ j, j ≠ n i → ((sqd X i (n i) : ℝ) : EReal) < negD x l (ix2 i j) := fun j hj => by
    rw [negD_at hX hL]
    split
    · exact EReal.coe_lt_top _
    · rename_i h; exact EReal.coe_lt_coe_iff.mpr (H.neg_min i j hj h)
  generalize negD x l = y at hn hj
  exact argmin_at y i (n i) (hn ▸ EReal.coe_lt_top _) (fun j h => hn ▸ hj j h)

/-- Three columns side by side. -/
theorem columns_at (a b c : Vec Ideal S4096x1 .i32) (i : Fin 4096) :
    concatenate S4096x3 1 [⟨S4096x1, a⟩, ⟨S4096x1, b⟩, ⟨S4096x1, c⟩] concatenates_S4096x1_S4096x1_S4096x1_S4096x3_d1 (ix2 i 0) = a (ix2 i 0)
    ∧ concatenate S4096x3 1 [⟨S4096x1, a⟩, ⟨S4096x1, b⟩, ⟨S4096x1, c⟩] concatenates_S4096x1_S4096x1_S4096x1_S4096x3_d1 (ix2 i 1) = b (ix2 i 0)
    ∧ concatenate S4096x3 1 [⟨S4096x1, a⟩, ⟨S4096x1, b⟩, ⟨S4096x1, c⟩] concatenates_S4096x1_S4096x1_S4096x1_S4096x3_d1 (ix2 i 2) = c (ix2 i 0) := by
  refine ⟨?_, ?_, ?_⟩ <;> pointwise

/-- A vector as a column. -/
theorem column_at (a : Vec Ideal S4096 .i32) (i : Fin 4096) : broadcastInDim S4096x1 ![0] bcast_S4096_S4096x1_0 a (ix2 i 0) = a (ix1 i) := by
  pointwise

/-- The triplets. -/
theorem trips_at (H : Hard X L p n) (hX : ∀ i k, x (ix2 i k) = ((X i k : ℝ) : EReal)) (hL : ∀ i, l (ix1 i) = L i) (i : Fin 4096) :
    trips x l (ix2 i 0) = BitVec.ofNat 32 i.val ∧ trips x l (ix2 i 1) = BitVec.ofNat 32 (p i).val ∧ trips x l (ix2 i 2) = BitVec.ofNat 32 (n i).val := by
  obtain ⟨h0, h1, h2⟩ := columns_at (broadcastInDim S4096x1 ![0] bcast_S4096_S4096x1_0 (iotaInDim S4096 32 0))
    (broadcastInDim S4096x1 ![0] bcast_S4096_S4096x1_0 (argmax (posD x l))) (broadcastInDim S4096x1 ![0] bcast_S4096_S4096x1_0 (argmin (negD x l))) i
  refine ⟨h0.trans ((column_at _ i).trans rfl), h1.trans ((column_at _ i).trans (argmax_pos H hX hL i)), h2.trans ((column_at _ i).trans (argmin_neg H hX hL i))⟩

/-- A row number below 4096 is its own row. -/
theorem wrap_at (v : Vec Ideal S4096x1 .i32) (i q : Fin 4096) (hv : v (ix2 i 0) = BitVec.ofNat 32 q.val) :
    wrap (F := Ideal) v (ix2 i 0) = BitVec.ofNat 32 q.val := by
  pointwise [wrap]
  rw [hv]
  have h : IntOp.cmpi .slt (BitVec.ofNat 32 q.val) 0#32 = 0#1 := by
    show BitVec.ofBool ((BitVec.ofNat 32 q.val).slt 0#32) = BitVec.ofBool false
    have := q.isLt
    refine congrArg BitVec.ofBool ?_
    rw [BitVec.slt_eq_decide, decide_eq_false_iff_not, BitVec.toInt_eq_toNat_of_lt (by simp; omega)]
    exact not_lt.mpr (Int.natCast_nonneg _)
  rw [h]
  rfl

/-- The rows that a column of the triplets names. -/
theorem rowsOf_at (t : Vec Ideal S4096x3 .i32) (o : Fin 3) (h : S4096x3.Slices ![0, o.val] S4096x1) (i q : Fin 4096) (k : Fin 512) (hv : t (ix2 i o) = BitVec.ofNat 32 q.val) :
    rowsOf x (extractStridedSlice S4096x1 ![0, o.val] t h) (ix2 i k) = x (ix2 q k) := by
  refine gather_at x _ i k q (wrap_at _ i q (Eq.trans ?_ hv))
  refine congrArg t (funext fun a => Fin.ext ?_)
  match a with
  | ⟨0, _⟩ => show 0 + i.val = i.val; omega
  | ⟨1, _⟩ => show o.val + 0 = o.val; omega

/-- A row's loss is its hinge. -/
theorem losses_at (hX : ∀ i k, x (ix2 i k) = ((X i k : ℝ) : EReal)) (t : Vec Ideal S4096x3 .i32) (i : Fin 4096)
    (ht : t (ix2 i 0) = BitVec.ofNat 32 i.val ∧ t (ix2 i 1) = BitVec.ofNat 32 (p i).val ∧ t (ix2 i 2) = BitVec.ofNat 32 (n i).val) :
    losses x t (ix1 i) = ((hinge X p n i : ℝ) : EReal) := by
  have h0 := fun k => (rowsOf_at (x := x) t 0 slices_S4096x3_S4096x1_0_0 i i k ht.1).trans (hX i k)
  have h1 := fun k => (rowsOf_at (x := x) t 1 slices_S4096x3_S4096x1_0_1 i (p i) k ht.2.1).trans (hX _ k)
  have h2 := fun k => (rowsOf_at (x := x) t 2 slices_S4096x3_S4096x1_0_2 i (n i) k ht.2.2).trans (hX _ k)
  pointwise [losses, dist]
  simp only [Fin.val_zero, Fin.val_one, Fin.val_two] at h0 h1 h2
  simp only [h0, h1, h2, ← EReal.coe_mul, ← coe_sum, ← EReal.coe_sub]
  rw [← sqd_eq, ← sqd_eq, ← EReal.coe_one, ← EReal.coe_add, ← EReal.coe_zero, ← coe_max]
  rfl

/-- The mean loss is the mean of the hinges. -/
theorem mean_at (hX : ∀ i k, x (ix2 i k) = ((X i k : ℝ) : EReal)) (t : Vec Ideal S4096x3 .i32)
    (ht : ∀ i, t (ix2 i 0) = BitVec.ofNat 32 i.val ∧ t (ix2 i 1) = BitVec.ofNat 32 (p i).val ∧ t (ix2 i 2) = BitVec.ofNat 32 (n i).val) (j : S_.Idx) :
    mean x t j = (((∑ i, hinge X p n i) / 4096 : ℝ) : EReal) := by
  pointwise [mean]
  simp only [fun i => losses_at hX t i (ht i), ← coe_sum]
  rw [Cert.KernelIdeal.Hand.ofBits_4096, Ideal.div_coe (by norm_num), ← EReal.coe_mul, mul_one_div]

end Cert.ReferenceIdeal.Hand
end
-- ==== Proof.PreDecode.lean ====
module

public import proofs.«01_k».proof.Proof.RefValue
public import proofs.«01_k».proof.Proof.Gen.Pre_unambiguous

@[expose] public section

set_option maxRecDepth 16384

noncomputable section

namespace Cert.Pre_unambiguous.Hand

open Cert.Pre_unambiguous Cert.Pre_unambiguous.Gen Cert.Triplet
open Idealize.ShloMosaic Idealize.ShloMosaic.TcCoe Idealize.ShloMosaic.Tactic
open Cert.ReferenceIdeal.Hand (d2 same self posD argmax argmin)

/-! ## What the precondition says of the rows and the labels -/

section
variable {F : FTy → Type} [FloatOps F]

/-- The distances to the rows of another label, infinity elsewhere, as the precondition masks them. -/
def negM (x : Vec F S4096x512 .f32) (l : Vec F S4096 .i32) : Vec F S4096x4096 .f32 :=
  select (same (F := F) l) (broadcastInDim S4096x4096 ![] bcast_S_S4096x4096 (constant S_ .f32 0x7F800000#32)) (d2 x)

/-- The greatest value of every row, -/
def rowMax (y : Vec F S4096x4096 .f32) : Vec F S4096 .f32 :=
  Host.reduce FloatOps.maximumf y (constant S_ .f32 0xFF800000#32) reducesTo_S4096x4096_S4096_d1 h_S_
/-- and the least. -/
def rowMin (y : Vec F S4096x4096 .f32) : Vec F S4096 .f32 :=
  Host.reduce FloatOps.minimumf y (constant S_ .f32 0x7F800000#32) reducesTo_S4096x4096_S4096_d1 h_S_

/-- A value of each row, in all its columns. -/
def wide {t : EltTy} (v : Vec F S4096 t) : Vec F S4096x4096 t :=
  broadcastInDim S4096x4096 ![0, 1] bcast_S4096x1_S4096x4096_0_1 (broadcastInDim S4096x1 ![0] bcast_S4096_S4096x1_0 v)

/-- Where the column is a row's given one. -/
def isCol (w : IVec S4096 32) : IVec S4096x4096 1 :=
  cmpi .eq (broadcastInDim S4096x4096 ![0, 1] bcast_S1x4096_S4096x4096_0_1 (broadcastInDim S1x4096 ![1] bcast_S4096_S1x4096_1 (iotaInDim S4096 32 0)))
    (wide (F := F) (t := .i32) w)

/-- The precondition's five arrays, stage by stage. -/
theorem fn_eq (a : Vec F S1024x512 .f32) (b : Vec F S1024 .i32) (x : Vec F S4096x512 .f32) (l : Vec F S4096 .i32) :
    fn (F := F) a b x l =
      (cmpf .olt (Host.absf x) (broadcastInDim S4096x512 ![] bcast_S_S4096x512 (constant S_ .f32 0x7F800000#32)),
       cmpf .ogt (rowMax (posD x l)) (broadcastInDim S4096 ![] bcast_S_S4096 (constant S_ .f32 0x00000000#32)),
       cmpf .olt (rowMin (negM x l)) (broadcastInDim S4096 ![] bcast_S_S4096 (constant S_ .f32 0x7F800000#32)),
       ori (cmpf .olt (posD x l) (wide (t := .f32) (rowMax (posD x l)))) (isCol (F := F) (argmax (posD x l))),
       ori (cmpf .ogt (negM x l) (wide (t := .f32) (rowMin (negM x l)))) (isCol (F := F) (argmin (negM x l)))) := rfl
end

variable {X : Fin 4096 → Fin 512 → ℝ} {L : Fin 4096 → BitVec 32}
variable {x : Vec Ideal S4096x512 .f32} {l : Vec Ideal S4096 .i32}

/-- The greatest value of a row is a fold over its columns, -/
theorem rowMax_at (y : Vec Ideal S4096x4096 .f32) (i : Fin 4096) : rowMax y (ix1 i) = Finset.univ.fold max (⊥ : EReal) (fun j : Fin 4096 => y (ix2 i j)) := by
  pointwise [rowMax]
  rw [Cert.KernelIdeal.Hand.ofBits_bot]

/-- and the least. -/
theorem rowMin_at (y : Vec Ideal S4096x4096 .f32) (i : Fin 4096) : rowMin y (ix1 i) = Finset.univ.fold min (⊤ : EReal) (fun j : Fin 4096 => y (ix2 i j)) := by
  pointwise [rowMin]
  rw [Cert.KernelIdeal.Hand.ofBits_top]

/-- A row's value in each of its columns. -/
theorem wide_f32_at (v : Vec Ideal S4096 .f32) (i j : Fin 4096) : wide (t := .f32) v (ix2 i j) = v (ix1 i) := by pointwise [wide]
theorem wide_i32_at (v : Vec Ideal S4096 .i32) (i j : Fin 4096) : wide (t := .i32) v (ix2 i j) = v (ix1 i) := by pointwise [wide]

/-- Whether a column is the row's given one. -/
theorem isCol_at (w : IVec S4096 32) (i j : Fin 4096) : isCol (F := Ideal) w (ix2 i j) = IntOp.cmpi .eq (BitVec.ofNat 32 j.val) (w (ix1 i)) := by
  pointwise [isCol, wide]

/-- A bit of a comparison set, -/
theorem ofBool_one {b : Bool} (h : BitVec.ofBool b = 1#1) : b = true := by cases b <;> simp_all

/-- and of one of two comparisons. -/
theorem or_one {a b : BitVec 1} (h : IntOp.ori a b = 1#1) : a = 1#1 ∨ b = 1#1 := by
  revert h; unfold IntOp.ori; revert a b; decide

/-- Two columns that are one row's given one are one column. -/
theorem col_unique {j q : Fin 4096} {w : BitVec 32} (hj : IntOp.cmpi .eq (BitVec.ofNat 32 j.val) w = 1#1) (hq : IntOp.cmpi .eq (BitVec.ofNat 32 q.val) w = 1#1) : j = q := by
  have hj := eq_of_beq (ofBool_one hj)
  have hq := eq_of_beq (ofBool_one hq)
  have h := congrArg BitVec.toNat (hj.trans hq.symm)
  have := j.isLt; have := q.isLt
  simp only [BitVec.toNat_ofNat] at h
  exact Fin.ext (by omega)

/-- The fold for the greatest of a row is one of its values, or where it starts, -/
theorem fold_max_mem (f : Fin 4096 → EReal) {b : EReal} (h : b < Finset.univ.fold max b f) : ∃ q, f q = Finset.univ.fold max b f ∧ ∀ j, f j ≤ Finset.univ.fold max b f := by
  have hle : ∀ j, f j ≤ Finset.univ.fold max b f := fun j => Finset.le_fold_max _ |>.mpr (.inr ⟨j, Finset.mem_univ _, le_rfl⟩)
  rcases (Finset.le_fold_max (Finset.univ.fold max b f)).mp le_rfl with h' | ⟨q, -, hq⟩
  · exact absurd h' (not_le.mpr h)
  · exact ⟨q, le_antisymm (hle q) hq, hle⟩

/-- and that for the least. -/
theorem fold_min_mem (f : Fin 4096 → EReal) {b : EReal} (h : Finset.univ.fold min b f < b) : ∃ q, f q = Finset.univ.fold min b f ∧ ∀ j, Finset.univ.fold min b f ≤ f j := by
  have hle : ∀ j, Finset.univ.fold min b f ≤ f j := fun j => Finset.fold_min_le _ |>.mpr (.inr ⟨j, Finset.mem_univ _, le_rfl⟩)
  rcases (Finset.fold_min_le (Finset.univ.fold min b f)).mp le_rfl with h' | ⟨q, -, hq⟩
  · exact absurd h' (not_le.mpr h)
  · exact ⟨q, le_antisymm hq (hle q), hle⟩

/-- A row whose greatest value is positive and stands in one column only. -/
theorem one_max (y : Vec Ideal S4096x4096 .f32) (w : IVec S4096 32) (i : Fin 4096) (h0 : 0 < rowMax y (ix1 i))
    (h : ∀ j, y (ix2 i j) < rowMax y (ix1 i) ∨ IntOp.cmpi .eq (BitVec.ofNat 32 j.val) (w (ix1 i)) = 1#1) :
    ∃ q : Fin 4096, 0 < y (ix2 i q) ∧ ∀ j, j ≠ q → y (ix2 i j) < y (ix2 i q) := by
  rw [rowMax_at] at h0 h
  obtain ⟨q, hq, -⟩ := fold_max_mem (fun j => y (ix2 i j)) (lt_trans EReal.bot_lt_zero h0)
  have hq : y (ix2 i q) = _ := hq
  rw [← hq] at h0 h
  refine ⟨q, h0, fun j hj => (h j).resolve_right fun hw => hj (col_unique hw ((h q).resolve_left (lt_irrefl _)))⟩

/-- A row whose least value is below infinity and stands in one column only. -/
theorem one_min (y : Vec Ideal S4096x4096 .f32) (w : IVec S4096 32) (i : Fin 4096) (h0 : rowMin y (ix1 i) < ⊤)
    (h : ∀ j, rowMin y (ix1 i) < y (ix2 i j) ∨ IntOp.cmpi .eq (BitVec.ofNat 32 j.val) (w (ix1 i)) = 1#1) :
    ∃ q : Fin 4096, y (ix2 i q) < ⊤ ∧ ∀ j, j ≠ q → y (ix2 i q) < y (ix2 i j) := by
  rw [rowMin_at] at h0 h
  obtain ⟨q, hq, -⟩ := fold_min_mem (fun j => y (ix2 i j)) h0
  have hq : y (ix2 i q) = _ := hq
  rw [← hq] at h0 h
  refine ⟨q, h0, fun j hj => (h j).resolve_right fun hw => hj (col_unique hw ((h q).resolve_left (lt_irrefl _)))⟩

/-- The masked distances of the negatives. -/
theorem negM_at (hX : ∀ i k, x (ix2 i k) = ((X i k : ℝ) : EReal)) (hL : ∀ i, l (ix1 i) = L i) (i j : Fin 4096) :
    negM x l (ix2 i j) = if L i = L j then ⊤ else ((sqd X i j : ℝ) : EReal) := by
  pointwise [negM]
  rw [Cert.ReferenceIdeal.Hand.same_at hL, Cert.ReferenceIdeal.Hand.d2_at hX, Cert.KernelIdeal.Hand.ofBits_top]
  by_cases h : L i = L j <;> simp [h, Scalar.select]

/-- An element below infinity in absolute value is a real number. -/
theorem finite_at (h : cmpf (F := Ideal) .olt (Host.absf (F := Ideal) x) (broadcastInDim S4096x512 ![] bcast_S_S4096x512 (constant S_ .f32 0x7F800000#32)) = fun _ => 1#1) (i : Fin 4096) (k : Fin 512) :
    x (ix2 i k) = (((x (ix2 i k) : EReal).toReal : ℝ) : EReal) := by
  have h : Ideal.cmp .olt (max (x (ix2 i k) : EReal) (-(x (ix2 i k)))) (Ideal.ofBits .f32 0x7F800000#32) = 1#1 := congrFun h (ix2 i k)
  rw [Cert.KernelIdeal.Hand.ofBits_top] at h
  have h := max_lt_iff.mp (of_decide_eq_true (ofBool_one h))
  exact (EReal.coe_toReal h.1.ne fun hb => h.2.ne (by rw [hb]; rfl)).symm

/-- The greatest value of every row is positive. -/
theorem positive_at (y : Vec Ideal S4096 .f32) (h : cmpf (F := Ideal) .ogt y (broadcastInDim S4096 ![] bcast_S_S4096 (constant S_ .f32 0x00000000#32)) = fun _ => 1#1) (i : Fin 4096) :
    0 < (y (ix1 i) : EReal) := by
  have h : Ideal.cmp .ogt (y (ix1 i) : EReal) (Ideal.ofBits .f32 0x00000000#32) = 1#1 := congrFun h (ix1 i)
  rw [show Ideal.ofBits .f32 0x00000000#32 = (0 : EReal) by simp [Ideal.ofBits, Ideal.ieee]] at h
  exact of_decide_eq_true (ofBool_one h)

/-- The least value of every row is below infinity. -/
theorem bounded_at (y : Vec Ideal S4096 .f32) (h : cmpf (F := Ideal) .olt y (broadcastInDim S4096 ![] bcast_S_S4096 (constant S_ .f32 0x7F800000#32)) = fun _ => 1#1) (i : Fin 4096) :
    (y (ix1 i) : EReal) < ⊤ := by
  have h : Ideal.cmp .olt (y (ix1 i) : EReal) (Ideal.ofBits .f32 0x7F800000#32) = 1#1 := congrFun h (ix1 i)
  rw [Cert.KernelIdeal.Hand.ofBits_top] at h
  exact of_decide_eq_true (ofBool_one h)

/-- Every value is below its row's greatest one, or stands in the given column. -/
theorem below_at (y : Vec Ideal S4096x4096 .f32) (v : Vec Ideal S4096 .f32) (w : IVec S4096 32)
    (h : ori (cmpf (F := Ideal) (φ := .f32) .olt y (wide (t := .f32) v)) (isCol (F := Ideal) w) = fun _ => 1#1) (i j : Fin 4096) :
    (y (ix2 i j) : EReal) < v (ix1 i) ∨ IntOp.cmpi .eq (BitVec.ofNat 32 j.val) (w (ix1 i)) = 1#1 := by
  have h : IntOp.ori (Ideal.cmp .olt (y (ix2 i j)) (wide (t := .f32) v (ix2 i j))) (isCol (F := Ideal) w (ix2 i j)) = 1#1 := congrFun h (ix2 i j)
  rw [wide_f32_at, isCol_at] at h
  exact (or_one h).imp_left fun h => of_decide_eq_true (ofBool_one h)

/-- Every value is above its row's least one, or stands in the given column. -/
theorem above_at (y : Vec Ideal S4096x4096 .f32) (v : Vec Ideal S4096 .f32) (w : IVec S4096 32)
    (h : ori (cmpf (F := Ideal) (φ := .f32) .ogt y (wide (t := .f32) v)) (isCol (F := Ideal) w) = fun _ => 1#1) (i j : Fin 4096) :
    (v (ix1 i) : EReal) < y (ix2 i j) ∨ IntOp.cmpi .eq (BitVec.ofNat 32 j.val) (w (ix1 i)) = 1#1 := by
  have h : IntOp.ori (Ideal.cmp .ogt (y (ix2 i j)) (wide (t := .f32) v (ix2 i j))) (isCol (F := Ideal) w (ix2 i j)) = 1#1 := congrFun h (ix2 i j)
  rw [wide_f32_at, isCol_at] at h
  exact (or_one h).imp_left fun h => of_decide_eq_true (ofBool_one h)

/-- The one farthest other row of a row's label. -/
theorem positive_of (hX : ∀ i k, x (ix2 i k) = ((X i k : ℝ) : EReal)) (hL : ∀ i, l (ix1 i) = L i) (i q : Fin 4096)
    (h0 : 0 < (posD x l (ix2 i q) : EReal)) (h : ∀ j, j ≠ q → (posD x l (ix2 i j) : EReal) < posD x l (ix2 i q)) :
    L i = L q ∧ i ≠ q ∧ 0 < sqd X i q ∧ ∀ j, j ≠ q → L i = L j → i ≠ j → sqd X i j < sqd X i q := by
  simp only [Cert.ReferenceIdeal.Hand.posD_at hX hL] at h0 h
  by_cases hq : L i = L q ∧ i ≠ q
  · rw [if_pos hq] at h0 h
    refine ⟨hq.1, hq.2, EReal.coe_pos.mp h0, fun j hj hl hn => ?_⟩
    have h := h j hj
    rw [if_pos ⟨hl, hn⟩] at h
    exact EReal.coe_lt_coe_iff.mp h
  · rw [if_neg hq] at h0
    exact absurd h0 not_lt_bot

/-- The one nearest row of another label. -/
theorem negative_of (hX : ∀ i k, x (ix2 i k) = ((X i k : ℝ) : EReal)) (hL : ∀ i, l (ix1 i) = L i) (i q : Fin 4096)
    (h0 : (negM x l (ix2 i q) : EReal) < ⊤) (h : ∀ j, j ≠ q → (negM x l (ix2 i q) : EReal) < negM x l (ix2 i j)) :
    L i ≠ L q ∧ ∀ j, j ≠ q → L i ≠ L j → sqd X i q < sqd X i j := by
  simp only [negM_at hX hL] at h0 h
  by_cases hq : L i = L q
  · rw [if_pos hq] at h0
    exact absurd h0 (lt_irrefl _)
  · rw [if_neg hq] at h
    refine ⟨hq, fun j hj hl => ?_⟩
    have h := h j hj
    rw [if_neg hl] at h
    exact EReal.coe_lt_coe_iff.mp h

/-- The precondition: the rows are real, and each has one farthest positive and one nearest negative. -/
theorem decode (a : Vec Ideal S1024x512 .f32) (b : Vec Ideal S1024 .i32) (x : Vec Ideal S4096x512 .f32) (l : Vec Ideal S4096 .i32)
    (h : (fn (F := Ideal) a b x l).1 = (fun _ => 1#1) ∧ (fn (F := Ideal) a b x l).2.1 = (fun _ => 1#1) ∧ (fn (F := Ideal) a b x l).2.2.1 = (fun _ => 1#1)
      ∧ (fn (F := Ideal) a b x l).2.2.2.1 = (fun _ => 1#1) ∧ (fn (F := Ideal) a b x l).2.2.2.2 = (fun _ => 1#1)) :
    ∃ (X : Fin 4096 → Fin 512 → ℝ) (p n : Fin 4096 → Fin 4096), (∀ i k, x (ix2 i k) = ((X i k : ℝ) : EReal)) ∧ Hard X (fun i => l (ix1 i)) p n := by
  rw [fn_eq] at h
  dsimp only at h
  obtain ⟨h1, h2, h3, h4, h5⟩ := h
  have hX := finite_at h1
  have hp := fun i => one_max _ _ i (positive_at _ h2 i) (below_at _ _ _ h4 i)
  have hn := fun i => one_min _ _ i (bounded_at _ h3 i) (above_at _ _ _ h5 i)
  clear h1 h2 h3 h4 h5
  choose p hp0 hp1 using hp
  choose n hn0 hn1 using hn
  have P := fun i => positive_of (L := fun i => l (ix1 i)) hX (fun _ => rfl) i (p i) (hp0 i) (hp1 i)
  have N := fun i => negative_of (L := fun i => l (ix1 i)) hX (fun _ => rfl) i (n i) (hn0 i) (hn1 i)
  exact ⟨_, p, n, hX, ⟨fun i => (P i).1, fun i => (P i).2.1, fun i => (P i).2.2.1, fun i => (P i).2.2.2, fun i => (N i).1, fun i => (N i).2⟩⟩

end Cert.Pre_unambiguous.Hand
end
-- ==== Proof.Value.lean ====
module

public import proofs.«01_k».proof.Defs
public import proofs.«01_k».proof.Proof.KerValue
public import proofs.«01_k».proof.Proof.RefValue
public import proofs.«01_k».proof.Proof.PreDecode

@[expose] public section

noncomputable section

namespace Cert.Hand

open Idealize.ShloMosaic Idealize.ShloMosaic.TcCoe Idealize.SL.Sem Cert.Triplet

/-! ## The kernel's results are the reference's -/

variable (m : (ℓ : Loc KernelIdeal.nD KernelIdeal.τ KernelIdeal.sig) → Buf (Elt Ideal) ℓ) (c : Dev KernelIdeal.nD)
variable {X : Fin 4096 → Fin 512 → ℝ} {L : Fin 4096 → BitVec 32} {p n : Fin 4096 → Fin 4096}
variable {x : Vec Ideal KernelIdeal.S4096x512 .f32} {l : Vec Ideal KernelIdeal.S4096 .i32}

/-- Two arrays of triplets that agree in the three columns of every row are one. -/
theorem triplets_ext {a b : Vec Ideal KernelIdeal.S4096x3 .i32} (h : ∀ i : Fin 4096, a (ix2 i 0) = b (ix2 i 0) ∧ a (ix2 i 1) = b (ix2 i 1) ∧ a (ix2 i 2) = b (ix2 i 2)) : a = b := by
  have hj : ∀ (i : Fin 4096) (j : Fin 3), a (ix2 i j) = b (ix2 i j) := fun i j => by
    match j with
    | 0 => exact (h i).1
    | 1 => exact (h i).2.1
    | 2 => exact (h i).2.2
  funext q
  rw [show q = ix2 (q 0 : Fin 4096) (q 1 : Fin 3) by funext d; fin_cases d <;> rfl]
  exact hj _ _

/-- The triplets of the two. -/
theorem trips_agree (hx : m ((c : Thread KernelIdeal.nD KernelIdeal.τ).loc KernelIdeal.main_arg2) = x)
    (hl : m ((c : Thread KernelIdeal.nD KernelIdeal.τ).loc KernelIdeal.main_arg3) = l)
    (H : Hard X L p n) (hX : ∀ i k, x (ix2 i k) = ((X i k : ℝ) : EReal)) (hL : ∀ i, l (ix1 i) = L i) :
    ReferenceIdeal.Hand.trips (F := Ideal) x l = KernelIdeal.Hand.triples m c := by
  refine triplets_ext fun i => ?_
  obtain ⟨a0, a1, a2⟩ := ReferenceIdeal.Hand.trips_at H hX hL i
  obtain ⟨b0, b1, b2⟩ := KernelIdeal.Hand.triples_at m c H (fun i k => by rw [hx]; exact hX i k) (fun i => by rw [hl]; exact hL i) i
  exact ⟨a0.trans b0.symm, a1.trans b1.symm, a2.trans b2.symm⟩

/-- The mean losses of the two. -/
theorem mean_agree (hx : m ((c : Thread KernelIdeal.nD KernelIdeal.τ).loc KernelIdeal.main_arg2) = x)
    (hl : m ((c : Thread KernelIdeal.nD KernelIdeal.τ).loc KernelIdeal.main_arg3) = l)
    (H : Hard X L p n) (hX : ∀ i k, x (ix2 i k) = ((X i k : ℝ) : EReal)) (hL : ∀ i, l (ix1 i) = L i) :
    ReferenceIdeal.Hand.mean (F := Ideal) x (ReferenceIdeal.Hand.trips (F := Ideal) x l) = fun _ => KernelIdeal.Hand.lossAt m c 7 := by
  funext j
  rw [ReferenceIdeal.Hand.mean_at hX _ (ReferenceIdeal.Hand.trips_at H hX hL) j]
  exact (KernelIdeal.Hand.loss_at m c H (fun i k => by rw [hx]; exact hX i k) (fun i => by rw [hl]; exact hL i)).symm

/-- Of arguments the precondition holds of, the kernel's mean loss and triplets are the reference's over the extended reals. -/
theorem algebraic : @Cert.algebraic_KernelIdeal_ReferenceIdeal_pre_unambiguous KernelIdeal.Gen.facts ReferenceIdeal.Gen.facts Pre_unambiguous.Gen.facts := by
  intro m g m' g' hP hm
  refine ⟨fun c => fun _ => KernelIdeal.Hand.lossAt m c 7, fun c => KernelIdeal.Hand.triples m c, KernelIdeal.Hand.run_results m g, ?_⟩
  refine (θ_run _ _ _).mono (fun r h c => ?_) (ReferenceIdeal.Hand.run_main (F := Ideal) m' g')
  obtain ⟨h0, h1, hargs⟩ := h c
  obtain ⟨-, -, e2, e3⟩ := hm c
  obtain ⟨X, p, n, hX, H⟩ := Pre_unambiguous.Hand.decode _ _ _ _ (hP c)
  rw [e2, e3] at h0 h1
  exact ⟨h0.trans (mean_agree m c rfl rfl H hX fun _ => rfl), h1.trans (trips_agree m c rfl rfl H hX fun _ => rfl), hargs⟩

end Cert.Hand
end
-- ==== Proof.lean ====
/- The claims of this certificate, from the modules under Proof/: the three programs' frames, the kernel's operations kept,
   and the kernel's two results against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unambiguous
public import proofs.«01_k».proof.Proof.Run
public import proofs.«01_k».proof.Proof.Frames
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts, Cert.Pre_unambiguous.Gen.facts, Cert.Hand.kernel_frame,
    fun m g _ => Cert.KernelIdeal.Hand.frame m g, fun m g _ => Cert.KernelIdeal.Hand.frame m g,
    fun m g _ => Cert.ReferenceIdeal.Hand.frame m g, fun m g _ => Cert.ReferenceIdeal.Hand.frame m g, trivial, Cert.Hand.algebraic⟩

end Cert.Proof

end
